-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_0) = v0 c
          ∧ r.2.mem ((c.tc : Thread Cert.ReferenceIdeal.nD Cert.ReferenceIdeal.τ).loc Cert.ReferenceIdeal.main_v14_1) = v1 c
          ∧ r.2.mem ((c.tc : Thread Cert.ReferenceIdeal.nD Cert.ReferenceIdeal.τ).loc Cert.ReferenceIdeal.main_v14_2) = v2 c
          ∧ r.2.mem ((c.tc : Thread Cert.ReferenceIdeal.nD Cert.ReferenceIdeal.τ).loc Cert.ReferenceIdeal.main_v14_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x2880 : Shape := ⟨3, ![2, 128, 2880]⟩
abbrev S2x128 : Shape := ⟨2, ![2, 128]⟩
abbrev S2880x7680 : Shape := ⟨2, ![2880, 7680]⟩
abbrev S7680 : Shape := ⟨1, ![7680]⟩
abbrev S_ : Shape := ⟨0, ![]⟩
abbrev S7680x2880 : Shape := ⟨2, ![7680, 2880]⟩
abbrev S2880 : Shape := ⟨1, ![2880]⟩
abbrev S256x2880 : Shape := ⟨2, ![256, 2880]⟩
abbrev S256x1 : Shape := ⟨2, ![256, 1]⟩
abbrev S1 : Shape := ⟨1, ![1]⟩
abbrev S1x7680 : Shape := ⟨2, ![1, 7680]⟩
abbrev S1x2880 : Shape := ⟨2, ![1, 2880]⟩
abbrev S256x7680 : Shape := ⟨2, ![256, 7680]⟩
abbrev S2880x768 : Shape := ⟨2, ![2880, 768]⟩
abbrev S1x768 : Shape := ⟨2, ![1, 768]⟩
abbrev S768x2880 : Shape := ⟨2, ![768, 2880]⟩
abbrev S256x768 : Shape := ⟨2, ![256, 768]⟩
abbrev S256x1024 : Shape := ⟨2, ![256, 1024]⟩
abbrev S1024x256 : Shape := ⟨2, ![1024, 256]⟩
abbrev S256x256 : Shape := ⟨2, ![256, 256]⟩
abbrev S256x832 : Shape := ⟨2, ![256, 832]⟩
abbrev S832x256 : Shape := ⟨2, ![832, 256]⟩
abbrev S1x256 : Shape := ⟨2, ![1, 256]⟩
abbrev S768x256 : Shape := ⟨2, ![768, 256]⟩
abbrev S768x64 : Shape := ⟨2, ![768, 64]⟩
abbrev S256x64 : Shape := ⟨2, ![256, 64]⟩
abbrev S32x1 : Shape := ⟨2, ![32, 1]⟩
abbrev S32x2880 : Shape := ⟨2, ![32, 2880]⟩
abbrev S32 : Shape := ⟨1, ![32]⟩

abbrev nBuf : Space → Nat
  | .hbm => 34
  | .vmem => 26
  | .smem => 3
  | _ => 0

abbrev bufTy : (tb : Table) → Fin (tcTables nBuf tb) → BufTy
  | .hbm, ⟨0, _⟩ => ⟨S2x128x2880, .i8⟩
  | .hbm, ⟨1, _⟩ => ⟨S2x128, .i32⟩
  | .hbm, ⟨2, _⟩ => ⟨S2880x7680, .i8⟩
  | .hbm, ⟨3, _⟩ => ⟨S7680, .i32⟩
  | .hbm, ⟨4, _⟩ => ⟨S7680, .i32⟩
  | .hbm, ⟨5, _⟩ => ⟨S7680, .i32⟩
  | .hbm, ⟨6, _⟩ => ⟨S_, .i32⟩
  | .hbm, ⟨7, _⟩ => ⟨S_, .i32⟩
  | .hbm, ⟨8, _⟩ => ⟨S7680x2880, .i8⟩
  | .hbm, ⟨9, _⟩ => ⟨S2880, .i32⟩
  | .hbm, ⟨10, _⟩ => ⟨S2880, .i32⟩
  | .hbm, ⟨11, _⟩ => ⟨S2880, .i32⟩
  | .hbm, ⟨12, _⟩ => ⟨S_, .i32⟩
  | .hbm, ⟨13, _⟩ => ⟨S2880, .i32⟩
  | .hbm, ⟨14, _⟩ => ⟨S2880, .i32⟩
  | .hbm, ⟨15, _⟩ => ⟨S2880, .i32⟩
  | .hbm, ⟨16, _⟩ => ⟨S256x2880, .i8⟩
  | .hbm, ⟨17, _⟩ => ⟨S256x1, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x7680, .i32⟩
  | .hbm, ⟨22, _⟩ => ⟨S1x7680, .i32⟩
  | .hbm, ⟨23, _⟩ => ⟨S1x7680, .i32⟩
  | .hbm, ⟨24, _⟩ => ⟨S1x2880, .i32⟩
  | .hbm, ⟨25, _⟩ => ⟨S1x2880, .i32⟩
  | .hbm, ⟨26, _⟩ => ⟨S1x2880, .i32⟩
  | .hbm, ⟨27, _⟩ => ⟨S1x2880, .i32⟩
  | .hbm, ⟨28, _⟩ => ⟨S1x2880, .i32⟩
  | .hbm, ⟨29, _⟩ => ⟨S1x2880, .i32⟩
  | .hbm, ⟨30, _⟩ => ⟨S256x2880, .i8⟩
  | .hbm, ⟨31, _⟩ => ⟨S256x7680, .i8⟩
  | .hbm, ⟨32, _⟩ => ⟨S256x2880, .i32⟩
  | .hbm, ⟨33, _⟩ => ⟨S256x1, .i32⟩
  | .local _ .vmem, ⟨0, _⟩ => ⟨S256x2880, .i8⟩
  | .local _ .vmem, ⟨1, _⟩ => ⟨S256x1, .i32⟩
  | .local _ .vmem, ⟨2, _⟩ => ⟨S2880x768, .i8⟩
  | .local _ .vmem, ⟨3, _⟩ => ⟨S2880x768, .i8⟩
  | .local _ .vmem, ⟨4, _⟩ => ⟨S1x768, .i32⟩
  | .local _ .vmem, ⟨5, _⟩ => ⟨S1x768, .i32⟩
  | .local _ .vmem, ⟨6, _⟩ => ⟨S1x768, .i32⟩
  | .local _ .vmem, ⟨7, _⟩ => ⟨S1x768, .i32⟩
  | .local _ .vmem, ⟨8, _⟩ => ⟨S1x768, .i32⟩
  | .local _ .vmem, ⟨9, _⟩ => ⟨S1x768, .i32⟩
  | .local _ .vmem, ⟨10, _⟩ => ⟨S768x2880, .i8⟩
  | .local _ .vmem, ⟨11, _⟩ => ⟨S768x2880, .i8⟩
  | .local _ .vmem, ⟨12, _⟩ => ⟨S1x2880, .i32⟩
  | .local _ .vmem, ⟨13, _⟩ => ⟨S1x2880, .i32⟩
  | .local _ .vmem, ⟨14, _⟩ => ⟨S1x2880, .i32⟩
  | .local _ .vmem, ⟨15, _⟩ => ⟨S1x2880, .i32⟩
  | .local _ .vmem, ⟨16, _⟩ => ⟨S1x2880, .i32⟩
  | .local _ .vmem, ⟨17, _⟩ => ⟨S1x2880, .i32⟩
  | .local _ .vmem, ⟨18, _⟩ => ⟨S256x2880, .i8⟩
  | .local _ .vmem, ⟨19, _⟩ => ⟨S256x768, .i8⟩
  | .local _ .vmem, ⟨20, _⟩ => ⟨S256x768, .i8⟩
  | .local _ .vmem, ⟨21, _⟩ => ⟨S256x2880, .i32⟩
  | .local _ .vmem, ⟨22, _⟩ => ⟨S256x1, .i32⟩
  | .local _ .vmem, ⟨23, _⟩ => ⟨S256x2880, .bf16⟩
  | .local _ .vmem, ⟨24, _⟩ => ⟨S256x768, .bf16⟩
  | .local _ .vmem, ⟨25, _⟩ => ⟨S256x2880, .i32⟩
  | .local _ .smem, ⟨0, _⟩ => ⟨S1, .i32⟩
  | .local _ .smem, ⟨1, _⟩ => ⟨S1, .i32⟩
  | .local _ .smem, ⟨2, _⟩ => ⟨S1, .i32⟩
  | _, _ => ⟨S2x128x2880, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg19_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem19_0 : DmaSem sig := 25

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v455 : BitVec 1 := Scalar.cmpi .eq arg0 c9_i32
  let v456 : BitVec 32 := Scalar.extui v455
  let c0_i32_239 : BitVec 32 := 0#32
  let v457 : BitVec 1 := Scalar.cmpi .ne v456 c0_i32_239
  v457

@[reducible] def k0_t1_loop : Scf.Loop 32 :=
  let c0_i32_240 : BitVec 32 := 0#32
  let c8_i32 : BitVec 32 := 8#32
  let v458 : BitVec 32 := Scalar.addi c0_i32_240 c8_i32
  let c1_i32_241 : BitVec 32 := 1#32
  ⟨c0_i32_240, v458, c1_i32_241⟩
def k0_mult1 (k0_t1 : Fin k0_t1_loop.trips) : BitVec 32 :=
  let c0_i32_240 : BitVec 32 := 0#32
  let c1_i32_241 : BitVec 32 := 1#32
  let arg24 : BitVec 32 := Scf.iv c0_i32_240 c1_i32_241 k0_t1
  let c32_i32 : BitVec 32 := 32#32
  let v459 : BitVec 32 := Scalar.muli arg24 c32_i32
  v459
def k0_off1 (k0_t1 : Fin k0_t1_loop.trips) : Fin 2 → Nat :=
  let c0_i32_240 : BitVec 32 := 0#32
  let c1_i32_241 : BitVec 32 := 1#32
  let arg24 : BitVec 32 := Scf.iv c0_i32_240 c1_i32_241 k0_t1
  let c32_i32 : BitVec 32 := 32#32
  let v459 : BitVec 32 := Scalar.muli arg24 c32_i32
  let v460 : BitVec 32 := v459
  let v461 : Index := Scalar.indexCast v460
  let c0_243 : Index := 0#32
  ![v461.toNat, 0]
def k0_off2 (k0_t1 : Fin k0_t1_loop.trips) : Fin 2 → Nat :=
  let c0_i32_240 : BitVec 32 := 0#32
  let c1_i32_241 : BitVec 32 := 1#32
  let arg24 : BitVec 32 := Scf.iv c0_i32_240 c1_i32_241 k0_t1
  let c32_i32 : BitVec 32 := 32#32
  let v459 : BitVec 32 := Scalar.muli arg24 c32_i32
  let v460 : BitVec 32 := v459
  let v464 : Index := Scalar.indexCast v460
  let c0_244 : Index := 0#32
  ![v464.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2880 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2880x768 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x768 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x768 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x2880 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2880 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2880 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2880 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2880 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2880 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2880 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x2880 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x768 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S256x2880 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S2x128x2880 : Shape := ⟨3, ![2, 128, 2880]⟩
abbrev S2x128 : Shape := ⟨2, ![2, 128]⟩
abbrev S2880x7680 : Shape := ⟨2, ![2880, 7680]⟩
abbrev S7680 : Shape := ⟨1, ![7680]⟩
abbrev S_ : Shape := ⟨0, ![]⟩
abbrev S7680x2880 : Shape := ⟨2, ![7680, 2880]⟩
abbrev S2880 : Shape := ⟨1, ![2880]⟩
abbrev S256x2880 : Shape := ⟨2, ![256, 2880]⟩
abbrev S256x1 : Shape := ⟨2, ![256, 1]⟩
abbrev S1x7680 : Shape := ⟨2, ![1, 7680]⟩
abbrev S1x1 : Shape := ⟨2, ![1, 1]⟩
abbrev S1x2880 : Shape := ⟨2, ![1, 2880]⟩
abbrev S256x7680 : Shape := ⟨2, ![256, 7680]⟩
abbrev S256 : Shape := ⟨1, ![256]⟩

abbrev nBuf : Space → Nat
  | .hbm => 34
  | .vmem => 20
  | .smem => 0
  | _ => 0

abbrev bufTy : (tb : Table) → Fin (tcTables nBuf tb) → BufTy
  | .hbm, ⟨0, _⟩ => ⟨S2x128x2880, .i8⟩
  | .hbm, ⟨1, _⟩ => ⟨S2x128, .i32⟩
  | .hbm, ⟨2, _⟩ => ⟨S2880x7680, .i8⟩
  | .hbm, ⟨3, _⟩ => ⟨S7680, .i32⟩
  | .hbm, ⟨4, _⟩ => ⟨S7680, .i32⟩
  | .hbm, ⟨5, _⟩ => ⟨S7680, .i32⟩
  | .hbm, ⟨6, _⟩ => ⟨S_, .i32⟩
  | .hbm, ⟨7, _⟩ => ⟨S_, .i32⟩
  | .hbm, ⟨8, _⟩ => ⟨S7680x2880, .i8⟩
  | .hbm, ⟨9, _⟩ => ⟨S2880, .i32⟩
  | .hbm, ⟨10, _⟩ => ⟨S2880, .i32⟩
  | .hbm, ⟨11, _⟩ => ⟨S2880, .i32⟩
  | .hbm, ⟨12, _⟩ => ⟨S_, .i32⟩
  | .hbm, ⟨13, _⟩ => ⟨S2880, .i32⟩
  | .hbm, ⟨14, _⟩ => ⟨S2880, .i32⟩
  | .hbm, ⟨15, _⟩ => ⟨S2880, .i32⟩
  | .hbm, ⟨16, _⟩ => ⟨S256x2880, .i8⟩
  | .hbm, ⟨17, _⟩ => ⟨S256x1, .i32⟩
  | .hbm, ⟨18, _⟩ => ⟨S1x7680, .i32⟩
  | .hbm, ⟨19, _⟩ => ⟨S1x7680, .i32⟩
  | .hbm, ⟨20, _⟩ => ⟨S1x7680, .i32⟩
  | .hbm, ⟨21, _⟩ => ⟨S1x1, .i32⟩
  | .hbm, ⟨22, _⟩ => ⟨S1x1, .i32⟩
  | .hbm, ⟨23, _⟩ => ⟨S1x2880, .i32⟩
  | .hbm, ⟨24, _⟩ => ⟨S1x2880, .i32⟩
  | .hbm, ⟨25, _⟩ => ⟨S1x2880, .i32⟩
  | .hbm, ⟨26, _⟩ => ⟨S1x1, .i32⟩
  | .hbm, ⟨27, _⟩ => ⟨S1x2880, .i32⟩
  | .hbm, ⟨28, _⟩ => ⟨S1x2880, .i32⟩
  | .hbm, ⟨29, _⟩ => ⟨S1x2880, .i32⟩
  | .hbm, ⟨30, _⟩ => ⟨S256x2880, .i8⟩
  | .hbm, ⟨31, _⟩ => ⟨S256x7680, .i8⟩
  | .hbm, ⟨32, _⟩ => ⟨S256x2880, .i32⟩
  | .hbm, ⟨33, _⟩ => ⟨S256x1, .i32⟩
  | .local _ .vmem, ⟨0, _⟩ => ⟨S256x2880, .i8⟩
  | .local _ .vmem, ⟨1, _⟩ => ⟨S256x1, .i32⟩
  | .local _ .vmem, ⟨2, _⟩ => ⟨S2880x7680, .i8⟩
  | .local _ .vmem, ⟨3, _⟩ => ⟨S1x7680, .i32⟩
  | .local _ .vmem, ⟨4, _⟩ => ⟨S1x7680, .i32⟩
  | .local _ .vmem, ⟨5, _⟩ => ⟨S1x7680, .i32⟩
  | .local _ .vmem, ⟨6, _⟩ => ⟨S1x1, .i32⟩
  | .local _ .vmem, ⟨7, _⟩ => ⟨S1x1, .i32⟩
  | .local _ .vmem, ⟨8, _⟩ => ⟨S7680x2880, .i8⟩
  | .local _ .vmem, ⟨9, _⟩ => ⟨S1x2880, .i32⟩
  | .local _ .vmem, ⟨10, _⟩ => ⟨S1x2880, .i32⟩
  | .local _ .vmem, ⟨11, _⟩ => ⟨S1x2880, .i32⟩
  | .local _ .vmem, ⟨12, _⟩ => ⟨S1x1, .i32⟩
  | .local _ .vmem, ⟨13, _⟩ => ⟨S1x2880, .i32⟩
  | .local _ .vmem, ⟨14, _⟩ => ⟨S1x2880, .i32⟩
  | .local _ .vmem, ⟨15, _⟩ => ⟨S1x2880, .i32⟩
  | .local _ .vmem, ⟨16, _⟩ => ⟨S256x2880, .i8⟩
  | .local _ .vmem, ⟨17, _⟩ => ⟨S256x7680, .i8⟩
  | .local _ .vmem, ⟨18, _⟩ => ⟨S256x2880, .i32⟩
  | .local _ .vmem, ⟨19, _⟩ => ⟨S256x1, .i32⟩
  | _, _ => ⟨S2x128x2880, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S256x2880 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2880x7680 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7680 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7680 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7680 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x2880 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2880 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2880 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2880 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2880 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2880 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x2880 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x2880 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x7680 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x2880 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x1 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.Layer.Spec.lean ====
/-
  The integer feed-forward layer on 32-bit words, one element at a time: what both programs compute. Every operation is the
  one the programs print (`IntOp`, at the vector unit), so a program's elementwise chain at an index IS one of these terms.
-/
module

public import Idealize.ShloMosaic.PureOps
public import Idealize.ShloMosaic.Lib.Pointwise

@[expose] public section

noncomputable section

namespace Cert.Layer

open Idealize.ShloMosaic

/-- `a · m / 2^k` rounded, the product taken in two parts split at bit `min (k - 1) 16`. -/
def dyadic (a m k : BitVec 32) : BitVec 32 :=
  IntOp.shrsi .vector (IntOp.addi (IntOp.shrsi .vector (IntOp.addi
    (IntOp.muli (IntOp.shrsi .vector a (IntOp.minsi (IntOp.subi k 1#32) 16#32)) m)
    (IntOp.shrsi .vector (IntOp.muli (IntOp.andi a (IntOp.subi (IntOp.shli .vector 1#32 (IntOp.minsi (IntOp.subi k 1#32) 16#32)) 1#32)) m)
      (IntOp.minsi (IntOp.subi k 1#32) 16#32)))
    (IntOp.subi (IntOp.subi k 1#32) (IntOp.minsi (IntOp.subi k 1#32) 16#32))) 1#32) 1#32

/-- `a` held to `[lo, hi]`. -/
def clamp (lo hi a : BitVec 32) : BitVec 32 := IntOp.minsi hi (IntOp.maxsi lo a)

/-- The sign of `a`. -/
def sgn (a : BitVec 32) : BitVec 32 :=
  IntOp.subi ((IntOp.cmpi .sgt a 0#32).setWidth 32) ((IntOp.cmpi .slt a 0#32).setWidth 32)

/-- The integer polynomial in place of the Gaussian error function, times its argument. -/
def gelu (h : BitVec 32) : BitVec 32 :=
  IntOp.muli h (IntOp.addi (IntOp.shrsi .vector (IntOp.muli (sgn h) (IntOp.subi 464742825#32
    (IntOp.muli (IntOp.subi (IntOp.minsi (IntOp.absi h) 20494#32) 20494#32) (IntOp.subi (IntOp.minsi (IntOp.absi h) 20494#32) 20494#32))))
    16#32) 7091#32)

/-- The hidden value of an accumulated product `acc`: rescaled, shifted, clamped. -/
def hidden (acc m k b xe : BitVec 32) : BitVec 32 :=
  clamp 4294901761#32 65535#32 (IntOp.addi (dyadic acc m (IntOp.subi k xe)) b)

/-- The hidden code as a 32-bit word in `[-127, 127]`. -/
def codeWord (acc m k b xe m2 k2 : BitVec 32) : BitVec 32 :=
  clamp 4294967169#32 127#32 (dyadic (gelu (hidden acc m k b xe)) m2 k2)

/-- The hidden code. -/
def code (acc m k b xe m2 k2 : BitVec 32) : BitVec 8 := (codeWord acc m k b xe m2 k2).setWidth 8

/-- The quotient rounded toward minus infinity. -/
def floorDiv (a b : BitVec 32) : BitVec 32 :=
  Scalar.select (IntOp.andi (IntOp.cmpi .ne (sgn a) (sgn b)) (IntOp.cmpi .ne (IntOp.remsi .vector a b) 0#32))
    (IntOp.subi (IntOp.divsi .vector a b) 1#32) (IntOp.divsi .vector a b)

/-- One step of Newton's square root of `n`. -/
def newton (n x : BitVec 32) : BitVec 32 := IntOp.minsi x (IntOp.shrsi .vector (IntOp.addi x (floorDiv n x)) 1#32)

/-- Where it starts: a power of two from the bit length. -/
def start (n : BitVec 32) : BitVec 32 :=
  IntOp.shli .vector 1#32 (IntOp.shrsi .vector (IntOp.addi (IntOp.subi 32#32 (IntOp.ctlz n)) 1#32) 1#32)

/-- The integer square root: six steps. -/
def isqrt (n : BitVec 32) : BitVec 32 := newton n (newton n (newton n (newton n (newton n (newton n (start n))))))

/-- The residual sum of one element: the second product rescaled, the input code shifted to its exponent, the bias. -/
def zed (acc m k : BitVec 32) (x : BitVec 8) (xe ze b : BitVec 32) : BitVec 32 :=
  IntOp.addi (IntOp.addi (dyadic acc m k) (IntOp.shli .vector (x.signExtend 32) (IntOp.subi xe ze))) b

/-- A row's sum, and a row's maximum. -/
def rowSum {n : ℕ} (v : Fin n → BitVec 32) : BitVec 32 := Finset.univ.fold IntOp.addi 0#32 v
def rowMax {n : ℕ} (v : Fin n → BitVec 32) : BitVec 32 := Finset.univ.fold IntOp.maxsi 2147483648#32 v

/-- A row less its floor mean. -/
def cent (z : Fin 2880 → BitVec 32) (c : Fin 2880) : BitVec 32 := IntOp.subi (z c) (floorDiv (rowSum z) 2880#32)

/-- The shift that keeps a row's sum of squares in a word. -/
def shiftOf (z : Fin 2880 → BitVec 32) : BitVec 32 :=
  IntOp.maxsi (IntOp.shrsi .vector (IntOp.addi (IntOp.muli 2#32 (IntOp.subi 32#32 (IntOp.ctlz (rowMax fun c => IntOp.absi (cent z c)))))
    4294967278#32) 1#32) 0#32

/-- The sum of squares of the shifted row. -/
def varOf (z : Fin 2880 → BitVec 32) : BitVec 32 :=
  rowSum fun c => IntOp.muli (IntOp.shrsi .vector (cent z c) (shiftOf z)) (IntOp.shrsi .vector (cent z c) (shiftOf z))

/-- The reciprocal of a row's deviation, scaled. -/
def factorOf (z : Fin 2880 → BitVec 32) : BitVec 32 :=
  floorDiv 1073741824#32 (IntOp.shli .vector (isqrt (varOf z)) (shiftOf z))

/-- The output code of a row at a column. -/
def outCode (z : Fin 2880 → BitVec 32) (c : Fin 2880) (m k b : BitVec 32) : BitVec 8 :=
  (clamp 4294967169#32 127#32 (IntOp.addi (dyadic (IntOp.muli (cent z c) (factorOf z)) m k) b)).setWidth 8

/-- The dot product of two rows of codes, as a 32-bit word. -/
def dot {n : ℕ} (a b : Fin n → BitVec 8) : BitVec 32 := BitVec.ofInt 32 (∑ k, (a k).toInt * (b k).toInt)

/-! The layer over its arrays, given by coordinates. -/

/-- The hidden codes. -/
def hid (x : Fin 256 → Fin 2880 → BitVec 8) (xe : Fin 256 → BitVec 32) (w1 : Fin 2880 → Fin 7680 → BitVec 8)
    (m1 k1 b1 : Fin 7680 → BitVec 32) (m2 k2 : BitVec 32) (r : Fin 256) (f : Fin 7680) : BitVec 8 :=
  code (dot (x r) fun k => w1 k f) (m1 f) (k1 f) (b1 f) (xe r) m2 k2

end Cert.Layer

end
-- ==== Proof.Layer.Dot.lean ====
/-
  A float product of 8-bit codes in exact arithmetic, read back as a 32-bit integer, is the integer dot product.
-/
module

public import proofs.«01_k».proof.Proof.Layer.Spec
public import Idealize.ShloMosaic.Lib.IntMxu

@[expose] public section

noncomputable section

namespace Cert.Layer

open Idealize.ShloMosaic

/-- The magnitude of a dot product of codes. -/
theorem abs_dot_le {n : ℕ} (a b : Fin n → BitVec 8) : |∑ k, (a k).toInt * (b k).toInt| ≤ n * 2 ^ 14 := by
  refine (Finset.abs_sum_le_sum_abs _ _).trans ?_
  have h : ∀ k ∈ (Finset.univ : Finset (Fin n)), |(a k).toInt * (b k).toInt| ≤ 2 ^ 14 := by
    intro k _
    rw [Int.abs_eq_natAbs, Int.natAbs_mul]
    have := Nat.mul_le_mul (natAbs_toInt_i8_le (a k)) (natAbs_toInt_i8_le (b k))
    exact_mod_cast this
  simpa using Finset.sum_le_card_nsmul Finset.univ _ _ h

/-- An integer within a word, as a real, converts to itself. -/
theorem fptosi_int (z : ℤ) (h : |z| < 2 ^ 31) : Ideal.fptosi 32 (((z : ℤ) : ℝ) : EReal) = BitVec.ofInt 32 z := by
  obtain ⟨h1, h2⟩ := abs_lt.mp h
  unfold Ideal.fptosi
  rw [Ideal.toIntClamped_coe]
  congr 1
  simp only [Int.floor_intCast, Int.ceil_intCast, ite_self]
  norm_num
  omega

theorem sum_coe {n : ℕ} (a b : Fin n → BitVec 8) :
    (∑ k, (((a k).toInt : ℝ) : EReal) * (((b k).toInt : ℝ) : EReal)) = (((∑ k, (a k).toInt * (b k).toInt : ℤ) : ℝ) : EReal) := by
  rw [Int.cast_sum]
  have : ∀ s : Finset (Fin n), (∑ k ∈ s, (((a k).toInt : ℝ) : EReal) * (((b k).toInt : ℝ) : EReal))
      = ((∑ k ∈ s, (((a k).toInt * (b k).toInt : ℤ) : ℝ) : ℝ) : EReal) := by
    intro s
    induction s using Finset.cons_induction with
    | empty => simp
    | cons i s hi ih => rw [Finset.sum_cons, Finset.sum_cons, ih, EReal.coe_add]; push_cast; rfl
  exact this _

/-- The converted sum of products is the integer dot product. -/
theorem fptosi_sum {n : ℕ} (a b : Fin n → BitVec 8) (h : n * 2 ^ 14 < 2 ^ 31) :
    Ideal.fptosi 32 (0 + ∑ k, (((a k).toInt : ℝ) : EReal) * (((b k).toInt : ℝ) : EReal)) = dot a b := by
  rw [zero_add, sum_coe, fptosi_int _ (lt_of_le_of_lt (abs_dot_le a b) (by exact_mod_cast h)), dot]

/-- A dot product over a longer row, in pieces. -/
theorem dot_add {n m l : ℕ} (hl : l = n + m) (a b : Fin l → BitVec 8) :
    IntOp.addi (dot (fun k : Fin n => a ⟨k, by omega⟩) fun k => b ⟨k, by omega⟩)
      (dot (fun k : Fin m => a ⟨n + k, by omega⟩) fun k => b ⟨n + k, by omega⟩) = dot a b := by
  subst hl
  unfold dot IntOp.addi
  rw [← BitVec.ofInt_add, Fin.sum_univ_add]
  rfl

end Cert.Layer

end
-- ==== Proof.Layer.Tiles.lean ====
/-
  The kernel's hidden-code tiles at an index: each of the three column tiles of a block computes `codeWord` of the slab
  product, stores its 8-bit code, and keeps the same code as a real for the second product.
-/
module

public import proofs.«01_k».proof.Proof.Layer.Dot
public import proofs.«01_k».proof.Proof.Gen.KernelIdeal.Skeleton

@[expose] public section

noncomputable section

namespace Cert.Layer

open Idealize.ShloMosaic Cert.KernelIdeal Cert.KernelIdeal.Gen

/-- The real value of an 8-bit code. -/
def real8 (b : BitVec 8) : EReal := ((b.toInt : ℝ) : EReal)

/-- A word held to `[-127, 127]` keeps its value in 8 bits. -/
theorem toInt_code (a : BitVec 32) : ((clamp 4294967169#32 127#32 a).setWidth 8).toInt = (clamp 4294967169#32 127#32 a).toInt := by
  have h : -127 ≤ (clamp 4294967169#32 127#32 a).toInt ∧ (clamp 4294967169#32 127#32 a).toInt ≤ 127 := by
    have e1 : (4294967169#32 : BitVec 32).toInt = -127 := by decide
    have e2 : (127#32 : BitVec 32).toInt = 127 := by decide
    unfold clamp IntOp.minsi IntOp.maxsi
    simp only [BitVec.sle_eq_decide, BitVec.slt_eq_decide, decide_eq_true_eq]
    split_ifs <;> omega
  generalize clamp 4294967169#32 127#32 a = v at h ⊢
  rw [← BitVec.signExtend_eq_setWidth_of_le v (by omega : 8 ≤ 32), BitVec.toInt_signExtend]
  rw [Int.bmod_def]
  norm_num
  omega

/-- The three slab products of a tile, over rows of codes: the whole dot product. -/
theorem slabs {x0 x1 : FVec Ideal S256x1024 .bf16} {x2 : FVec Ideal S256x832 .bf16} {w0 w1 : IVec S1024x256 8} {w2 : IVec S832x256 8}
    {r c : Fin 256} (a b : Fin 2880 → BitVec 8)
    (h0 : ∀ k : Fin 1024, x0 (ix2 r k) = real8 (a ⟨k, by omega⟩)) (h1 : ∀ k : Fin 1024, x1 (ix2 r k) = real8 (a ⟨1024 + k, by omega⟩))
    (h2 : ∀ k : Fin 832, x2 (ix2 r k) = real8 (a ⟨2048 + k, by omega⟩))
    (k0 : ∀ k : Fin 1024, w0 (ix2 k c) = b ⟨k, by omega⟩) (k1 : ∀ k : Fin 1024, w1 (ix2 k c) = b ⟨1024 + k, by omega⟩)
    (k2 : ∀ k : Fin 832, w2 (ix2 k c) = b ⟨2048 + k, by omega⟩) :
    k0_pay33 (F := Ideal) x0 w0 x1 w1 x2 w2 (ix2 r c) = dot a b := by
  unfold k0_pay33
  simp only [pointwise, h0, h1, h2, k0, k1, k2]
  rw [← dot_add (n := 2048) (m := 832) rfl a b, ← dot_add (n := 1024) (m := 1024) rfl (fun k : Fin 2048 => a ⟨k, by omega⟩)]
  rw [← fptosi_sum _ _ (by norm_num), ← fptosi_sum _ _ (by norm_num), ← fptosi_sum _ _ (by norm_num)]
  rfl

/-! The accumulated product in the three tiles' spellings is the one above. -/

section
variable (x0 x1 : FVec Ideal S256x1024 .bf16) (x2 : FVec Ideal S256x832 .bf16) (w0 w1 : IVec S1024x256 8) (w2 : IVec S832x256 8)
  (acc : IVec S256x256 32) (xe : IVec S256x1 32) (m k b : IVec S1x256 32) (m2 k2 : BitVec 32) (r c : Fin 256)

/-- The first tile's code word. -/
theorem word0 :
    k0_pay40 (F := Ideal) (k0_pay37 (F := Ideal) acc (k0_pay34 (F := Ideal) m) (k0_pay35 (F := Ideal) xe k) (k0_pay36 (F := Ideal) xe k) b)
      (k0_pay38 (F := Ideal) acc (k0_pay34 (F := Ideal) m) (k0_pay35 (F := Ideal) xe k) (k0_pay36 (F := Ideal) xe k) b) k0_pay39 m2 k2 (ix2 r c)
      = codeWord (acc (ix2 r c)) (m (ix2 0 c)) (k (ix2 0 c)) (b (ix2 0 c)) (xe (ix2 r 0)) m2 k2 := by
  unfold k0_pay40 k0_pay37 k0_pay38 k0_pay37 k0_pay36 k0_pay35 k0_pay34 k0_pay39 k0_pay32
  simp only [pointwise]
  rfl

/-- The second tile's. -/
theorem word1 :
    k0_pay49 (F := Ideal) m2 (Scalar.subi k2 1#32) (Scalar.minsi (Scalar.subi k2 1#32) 16#32)
      (k0_pay47 (F := Ideal) (k0_pay44 (F := Ideal) (k0_pay32 (F := Ideal) xe) x0 (k0_pay43 (F := Ideal) w0) x1 w1 x2 w2 m k) k0_pay45 b k2)
      (k0_pay48 (F := Ideal) (k0_pay44 (F := Ideal) (k0_pay32 (F := Ideal) xe) x0 (k0_pay43 (F := Ideal) w0) x1 w1 x2 w2 m k) k0_pay45 b k2) (ix2 r c)
      = codeWord (k0_pay33 (F := Ideal) x0 w0 x1 w1 x2 w2 (ix2 r c)) (m (ix2 0 c)) (k (ix2 0 c)) (b (ix2 0 c)) (xe (ix2 r 0)) m2 k2 := by
  unfold k0_pay49 k0_pay47 k0_pay48 k0_pay46 k0_pay44 k0_pay45 k0_pay43 k0_pay32 k0_pay33
  simp only [pointwise]
  rfl

/-- The third tile's. -/
theorem word2 :
    k0_pay56 (k0_pay55 (F := Ideal) (k0_pay53 (F := Ideal) (k0_pay32 (F := Ideal) xe) (k0_pay52 (F := Ideal) x0 w0 x1 w1) x2 w2 m k b)
      (k0_pay54 (F := Ideal) (k0_pay32 (F := Ideal) xe) (k0_pay52 (F := Ideal) x0 w0 x1 w1) x2 w2 m k b) 20494#32 m2 k2)
      4294967169#32 127#32 (ix2 r c)
      = codeWord (k0_pay33 (F := Ideal) x0 w0 x1 w1 x2 w2 (ix2 r c)) (m (ix2 0 c)) (k (ix2 0 c)) (b (ix2 0 c)) (xe (ix2 r 0)) m2 k2 := by
  unfold k0_pay56 k0_pay55 k0_pay54 k0_pay53 k0_pay52 k0_pay32 k0_pay33
  simp only [pointwise]
  rfl

/-- What a tile keeps for the second product is the code's real value. -/
theorem real_of_word {a m k b xe m2 k2 : BitVec 32} :
    Scalar.sitofp (F := Ideal) .f32 (codeWord a m k b xe m2 k2) = real8 (code a m k b xe m2 k2) := by
  unfold real8 code codeWord
  rw [toInt_code]
  rfl

end

/-! The stored values: the 8-bit code, and the code as a real, given the word. -/

section
variable {r c : Fin 256} {w : BitVec 32}

theorem store0 {a1 a2 a3 : IVec S256x256 32} {m2 k2 : BitVec 32} :
    k0_pay41 (F := Ideal) a1 a2 a3 m2 k2 (ix2 r c) = (k0_pay40 (F := Ideal) a1 a2 a3 m2 k2 (ix2 r c)).setWidth 8 := by
  unfold k0_pay41; simp only [pointwise]
theorem keep0 {a1 a2 a3 : IVec S256x256 32} {m2 k2 : BitVec 32} :
    k0_pay42 (F := Ideal) a1 a2 a3 m2 k2 (ix2 r c) = Scalar.sitofp (F := Ideal) .f32 (k0_pay40 (F := Ideal) a1 a2 a3 m2 k2 (ix2 r c)) := by
  unfold k0_pay42; simp only [pointwise]; rfl
theorem store1 {a1 a2 : IVec S256x256 32} {m2 p q : BitVec 32} :
    k0_pay50 (F := Ideal) m2 p q a1 a2 (ix2 r c) = (k0_pay49 (F := Ideal) m2 p q a1 a2 (ix2 r c)).setWidth 8 := by
  unfold k0_pay50; simp only [pointwise]
theorem keep1 {a1 a2 : IVec S256x256 32} {m2 p q : BitVec 32} :
    k0_pay51 (F := Ideal) m2 p q a1 a2 (ix2 r c) = Scalar.sitofp (F := Ideal) .f32 (k0_pay49 (F := Ideal) m2 p q a1 a2 (ix2 r c)) := by
  unfold k0_pay51; simp only [pointwise]; rfl
theorem store2 {a1 : IVec S256x256 32} {p q : BitVec 32} :
    k0_pay57 a1 p q (ix2 r c) = (k0_pay56 a1 p q (ix2 r c)).setWidth 8 := by
  unfold k0_pay57; simp only [pointwise]
theorem keep2 {a1 : IVec S256x256 32} {p q : BitVec 32} :
    k0_pay58 (F := Ideal) a1 p q (ix2 r c) = Scalar.sitofp (F := Ideal) .f32 (k0_pay56 a1 p q (ix2 r c)) := by
  unfold k0_pay58; simp only [pointwise]; rfl
end

end Cert.Layer

end
-- ==== Proof.Layer.Cut.lean ====
/-
  Cutting a rank-2 array: a load through a unit-stride rectangle at an index, and where a rectangle places an index.
-/
module

public import proofs.«01_k».proof.Proof.Layer.Dot
public import Idealize.ShloMosaic.Lib.Pipeline.ValueKit

@[expose] public section

namespace Cert.Layer

open Idealize.ShloMosaic

variable {n m p q o1 o2 : ℕ}

/-- A load through a rectangle, at an index: the array at the index moved by the rectangle's offsets. -/
theorem ld_at {Val : EltTy → Type} {e : EltTy} {X : (⟨2, ![n, m]⟩ : Shape).Idx → Val e}
    {inb : ∀ a, (![o1, o2] : Fin 2 → ℕ) a + (![p, q] : Fin 2 → ℕ) a ≤ (⟨2, ![n, m]⟩ : Shape).size a} (i : Fin p) (j : Fin q)
    (i' : Fin n) (j' : Fin m) (h1 : (i' : ℕ) = o1 + i) (h2 : (j' : ℕ) = o2 + j) :
    View.ld X (Rect.unit (s := ⟨2, ![n, m]⟩) ![o1, o2] ![p, q] inb) (ix2 i j) = X (ix2 i' j') :=
  View.ld_unit_apply_of X _ _ _ _ _ (fun a => match a with | ⟨0, _⟩ => h1 | ⟨1, _⟩ => h2)

/-- Where a rectangle places an index. -/
theorem emb_at {inb : ∀ a, (![o1, o2] : Fin 2 → ℕ) a + (![p, q] : Fin 2 → ℕ) a ≤ (⟨2, ![n, m]⟩ : Shape).size a} (i : Fin p) (j : Fin q)
    (i' : Fin n) (j' : Fin m) (h1 : (i' : ℕ) = o1 + i) (h2 : (j' : ℕ) = o2 + j) :
    (Rect.unit (s := ⟨2, ![n, m]⟩) ![o1, o2] ![p, q] inb).emb (ix2 i j) = ix2 i' j' := by
  funext a
  apply Fin.ext
  refine (Rect.idx_unit_val _ _ inb _ a).trans ?_
  match a with
  | ⟨0, _⟩ => exact h1.symm
  | ⟨1, _⟩ => exact h2.symm

/-- An index to the right of a rectangle, or below it, is not in it. -/
theorem not_mem_right {inb : ∀ a, (![o1, o2] : Fin 2 → ℕ) a + (![p, q] : Fin 2 → ℕ) a ≤ (⟨2, ![n, m]⟩ : Shape).size a}
    {y : (⟨2, ![n, m]⟩ : Shape).Idx} (h : o2 + q ≤ (y 1).val) :
    y ∉ (Rect.unit (s := ⟨2, ![n, m]⟩) ![o1, o2] ![p, q] inb).set := by
  intro hy
  rw [Rect.mem_set_unit] at hy
  have := (hy 1).2
  have e : (![o1, o2] : Fin 2 → ℕ) 1 + (![p, q] : Fin 2 → ℕ) 1 = o2 + q := rfl
  omega

/-- Pieces agree with an array when, at each of the piece's indices, the stored value is the array's where the piece lies. -/
theorem piece_at {Val : EltTy → Type} {e : EltTy} {G : (⟨2, ![n, m]⟩ : Shape).Idx → Val e}
    {inb : ∀ a, (![o1, o2] : Fin 2 → ℕ) a + (![p, q] : Fin 2 → ℕ) a ≤ (⟨2, ![n, m]⟩ : Shape).size a}
    {w : (⟨2, ![p, q]⟩ : Shape).Idx → Val e}
    (h : ∀ (i : Fin p) (j : Fin q) (i' : Fin n) (j' : Fin m), (i' : ℕ) = o1 + i → (j' : ℕ) = o2 + j → w (ix2 i j) = G (ix2 i' j'))
    (x : (⟨2, ![p, q]⟩ : Shape).Idx) : w x = G ((Rect.unit (s := ⟨2, ![n, m]⟩) ![o1, o2] ![p, q] inb).emb x) := by
  obtain ⟨i, j, rfl⟩ : ∃ i j, x = ix2 i j := ⟨_, _, eq_ix2 x⟩
  have b1 : o1 + p ≤ n := inb 0
  have b2 : o2 + q ≤ m := inb 1
  rw [emb_at i j ⟨o1 + i, by omega⟩ ⟨o2 + j, by omega⟩ rfl rfl]
  exact h _ _ _ _ rfl rfl

/-- The same for a rectangle whose offsets are given by an equation. -/
theorem piece_off {Val : EltTy → Type} {e : EltTy} {G : (⟨2, ![n, m]⟩ : Shape).Idx → Val e} {off : Fin 2 → ℕ} (ho : off = ![o1, o2])
    {inb : ∀ a, off a + (![p, q] : Fin 2 → ℕ) a ≤ (⟨2, ![n, m]⟩ : Shape).size a}
    {w : (⟨2, ![p, q]⟩ : Shape).Idx → Val e}
    (h : ∀ (i : Fin p) (j : Fin q) (i' : Fin n) (j' : Fin m), (i' : ℕ) = o1 + i → (j' : ℕ) = o2 + j → w (ix2 i j) = G (ix2 i' j'))
    (x : (⟨2, ![p, q]⟩ : Shape).Idx) : w x = G ((Rect.unit (s := ⟨2, ![n, m]⟩) off ![p, q] inb).emb x) := by
  subst ho
  exact piece_at h x

end Cert.Layer

end
-- ==== Proof.Layer.Block.lean ====
/-
  One block of hidden columns: the pieces the body stores, written with loads of the body's inputs, and what they hold.
  A block is three tiles of 256 columns of codes (`tiles17`, kept as reals in `tiles22`) and twelve column slabs of the
  second product's accumulator (`slabs23`).
-/
module

public import proofs.«01_k».proof.Proof.Layer.Tiles
public import proofs.«01_k».proof.Proof.Layer.Cut

@[expose] public section

set_option maxRecDepth 16384

noncomputable section

namespace Cert.Layer

open Idealize.ShloMosaic Idealize.ShloMosaic.TcCoe Cert.KernelIdeal Cert.KernelIdeal.Gen

/-- The codes of a block: row `r`, hidden column `f`, over rows `a` of input codes and the block's columns of the first
    weights, its multipliers, shifts and biases. -/
def blockCode (a : Fin 256 → Fin 2880 → BitVec 8) (xe : IVec S256x1 32) (w : IVec S2880x768 8) (m k b : IVec S1x768 32) (m2 k2 : BitVec 32)
    (r : Fin 256) (f : Fin 768) : BitVec 8 :=
  code (dot (a r) (fun d => w (ix2 d f))) (m (ix2 0 f)) (k (ix2 0 f)) (b (ix2 0 f)) (xe (ix2 r 0)) m2 k2

/-- A block's codes as an array. -/
def codesOf (a : Fin 256 → Fin 2880 → BitVec 8) (xe : IVec S256x1 32) (w : IVec S2880x768 8) (m k b : IVec S1x768 32) (m2 k2 : BitVec 32) : IVec S256x768 8 :=
  fun y => blockCode a xe w m k b m2 k2 (y 0) (y 1)

/-- A block's codes kept as reals. -/
def keptOf (a : Fin 256 → Fin 2880 → BitVec 8) (xe : IVec S256x1 32) (w : IVec S2880x768 8) (m k b : IVec S1x768 32) (m2 k2 : BitVec 32) :
    FVec Ideal S256x768 .bf16 :=
  fun y => real8 (blockCode a xe w m k b m2 k2 (y 0) (y 1))

/-- The accumulator after a block of codes `g`. -/
def sumOf (z : Fin 256 → Fin 2880 → BitVec 32) (g : Fin 256 → Fin 768 → BitVec 8) (w2 : IVec S768x2880 8) : IVec S256x2880 32 :=
  fun y => IntOp.addi (z (y 0) (y 1)) (dot (g (y 0)) (fun f => w2 (ix2 f (y 1))))

section
variable (X : FVec Ideal S256x2880 .bf16) (xe : IVec S256x1 32) (w : IVec S2880x768 8) (m k b : IVec S1x768 32) (m2 k2 : BitVec 32)

/-- The first tile's product, over the rows as reals. -/
def acc0 : IVec S256x256 32 :=
  k0_pay33 (F := Ideal) (View.ld X (Rect.unit (s := S256x2880) ![0, 0] S256x1024.size inb_S256x2880_S256x1024_0_0)) (View.ld w (Rect.unit (s := S2880x768) ![0, 0] S1024x256.size inb_S2880x768_S1024x256_0_0))
    (View.ld X (Rect.unit (s := S256x2880) ![0, 1024] S256x1024.size inb_S256x2880_S256x1024_0_1024)) (View.ld w (Rect.unit (s := S2880x768) ![1024, 0] S1024x256.size inb_S2880x768_S1024x256_1024_0))
    (View.ld X (Rect.unit (s := S256x2880) ![0, 2048] S256x832.size inb_S256x2880_S256x832_0_2048)) (View.ld w (Rect.unit (s := S2880x768) ![2048, 0] S832x256.size inb_S2880x768_S832x256_2048_0))

/-- The first tile's hidden word before the last scaling. -/
def hid0 : IVec S256x256 32 :=
  k0_pay37 (F := Ideal) (acc0 X w) (k0_pay34 (F := Ideal) (View.ld m (Rect.unit (s := S1x768) ![0, 0] S1x256.size inb_S1x768_S1x256_0_0))) (k0_pay35 (F := Ideal) (View.ld xe (Rect.unit (s := S256x1) ![0, 0] S256x1.size inb_S256x1_S256x1_0_0)) (View.ld k (Rect.unit (s := S1x768) ![0, 0] S1x256.size inb_S1x768_S1x256_0_0)))
    (k0_pay36 (F := Ideal) (View.ld xe (Rect.unit (s := S256x1) ![0, 0] S256x1.size inb_S256x1_S256x1_0_0)) (View.ld k (Rect.unit (s := S1x768) ![0, 0] S1x256.size inb_S1x768_S1x256_0_0))) (View.ld b (Rect.unit (s := S1x768) ![0, 0] S1x256.size inb_S1x768_S1x256_0_0))

/-- Its gate. -/
def gate0 : IVec S256x256 32 :=
  k0_pay38 (F := Ideal) (acc0 X w) (k0_pay34 (F := Ideal) (View.ld m (Rect.unit (s := S1x768) ![0, 0] S1x256.size inb_S1x768_S1x256_0_0))) (k0_pay35 (F := Ideal) (View.ld xe (Rect.unit (s := S256x1) ![0, 0] S256x1.size inb_S256x1_S256x1_0_0)) (View.ld k (Rect.unit (s := S1x768) ![0, 0] S1x256.size inb_S1x768_S1x256_0_0)))
    (k0_pay36 (F := Ideal) (View.ld xe (Rect.unit (s := S256x1) ![0, 0] S256x1.size inb_S256x1_S256x1_0_0)) (View.ld k (Rect.unit (s := S1x768) ![0, 0] S1x256.size inb_S1x768_S1x256_0_0))) (View.ld b (Rect.unit (s := S1x768) ![0, 0] S1x256.size inb_S1x768_S1x256_0_0))

/-- The second tile's scaled product. -/
def acc1 :=
  k0_pay44 (F := Ideal) (k0_pay32 (F := Ideal) (View.ld xe (Rect.unit (s := S256x1) ![0, 0] S256x1.size inb_S256x1_S256x1_0_0))) (View.ld X (Rect.unit (s := S256x2880) ![0, 0] S256x1024.size inb_S256x2880_S256x1024_0_0)) (k0_pay43 (F := Ideal) (View.ld w (Rect.unit (s := S2880x768) ![0, 256] S1024x256.size inb_S2880x768_S1024x256_0_256)))
    (View.ld X (Rect.unit (s := S256x2880) ![0, 1024] S256x1024.size inb_S256x2880_S256x1024_0_1024)) (View.ld w (Rect.unit (s := S2880x768) ![1024, 256] S1024x256.size inb_S2880x768_S1024x256_1024_256))
    (View.ld X (Rect.unit (s := S256x2880) ![0, 2048] S256x832.size inb_S256x2880_S256x832_0_2048)) (View.ld w (Rect.unit (s := S2880x768) ![2048, 256] S832x256.size inb_S2880x768_S832x256_2048_256)) (View.ld m (Rect.unit (s := S1x768) ![0, 256] S1x256.size inb_S1x768_S1x256_0_256)) (View.ld k (Rect.unit (s := S1x768) ![0, 256] S1x256.size inb_S1x768_S1x256_0_256))

/-- The second tile's hidden word. -/
def hid1 : IVec S256x256 32 := k0_pay47 (F := Ideal) (acc1 X xe w m k) k0_pay45 (View.ld b (Rect.unit (s := S1x768) ![0, 256] S1x256.size inb_S1x768_S1x256_0_256)) k2

/-- Its gate. -/
def gate1 : IVec S256x256 32 := k0_pay48 (F := Ideal) (acc1 X xe w m k) k0_pay45 (View.ld b (Rect.unit (s := S1x768) ![0, 256] S1x256.size inb_S1x768_S1x256_0_256)) k2

/-- The third tile's product over its first two slabs. -/
def acc2 := k0_pay52 (F := Ideal) (View.ld X (Rect.unit (s := S256x2880) ![0, 0] S256x1024.size inb_S256x2880_S256x1024_0_0)) (View.ld w (Rect.unit (s := S2880x768) ![0, 512] S1024x256.size inb_S2880x768_S1024x256_0_512)) (View.ld X (Rect.unit (s := S256x2880) ![0, 1024] S256x1024.size inb_S256x2880_S256x1024_0_1024)) (View.ld w (Rect.unit (s := S2880x768) ![1024, 512] S1024x256.size inb_S2880x768_S1024x256_1024_512))

/-- The third tile's word. -/
def hid2 : IVec S256x256 32 :=
  k0_pay55 (F := Ideal)
    (k0_pay53 (F := Ideal) (k0_pay32 (F := Ideal) (View.ld xe (Rect.unit (s := S256x1) ![0, 0] S256x1.size inb_S256x1_S256x1_0_0))) (acc2 X w) (View.ld X (Rect.unit (s := S256x2880) ![0, 2048] S256x832.size inb_S256x2880_S256x832_0_2048)) (View.ld w (Rect.unit (s := S2880x768) ![2048, 512] S832x256.size inb_S2880x768_S832x256_2048_512))
      (View.ld m (Rect.unit (s := S1x768) ![0, 512] S1x256.size inb_S1x768_S1x256_0_512)) (View.ld k (Rect.unit (s := S1x768) ![0, 512] S1x256.size inb_S1x768_S1x256_0_512)) (View.ld b (Rect.unit (s := S1x768) ![0, 512] S1x256.size inb_S1x768_S1x256_0_512)))
    (k0_pay54 (F := Ideal) (k0_pay32 (F := Ideal) (View.ld xe (Rect.unit (s := S256x1) ![0, 0] S256x1.size inb_S256x1_S256x1_0_0))) (acc2 X w) (View.ld X (Rect.unit (s := S256x2880) ![0, 2048] S256x832.size inb_S256x2880_S256x832_0_2048)) (View.ld w (Rect.unit (s := S2880x768) ![2048, 512] S832x256.size inb_S2880x768_S832x256_2048_512))
      (View.ld m (Rect.unit (s := S1x768) ![0, 512] S1x256.size inb_S1x768_S1x256_0_512)) (View.ld k (Rect.unit (s := S1x768) ![0, 512] S1x256.size inb_S1x768_S1x256_0_512)) (View.ld b (Rect.unit (s := S1x768) ![0, 512] S1x256.size inb_S1x768_S1x256_0_512))) 20494#32 m2 k2

/-- The three tiles of codes, last first. -/
def tiles17 : List (View.Piece (Elt Ideal) S256x768 .i8) :=
  [⟨Rect.unit (s := S256x768) ![0, 512] S256x256.size inb_S256x768_S256x256_0_512, k0_pay57 (hid2 X xe w m k b m2 k2) 4294967169#32 127#32⟩,
   ⟨Rect.unit (s := S256x768) ![0, 256] S256x256.size inb_S256x768_S256x256_0_256, k0_pay50 (F := Ideal) m2 (Scalar.subi k2 1#32) (Scalar.minsi (Scalar.subi k2 1#32) 16#32) (hid1 X xe w m k b k2) (gate1 X xe w m k b k2)⟩,
   ⟨Rect.unit (s := S256x768) ![0, 0] S256x256.size inb_S256x768_S256x256_0_0, k0_pay41 (F := Ideal) (hid0 X xe w m k b) (gate0 X xe w m k b) k0_pay39 m2 k2⟩]

/-- The same codes kept as reals, last first. -/
def tiles22 : List (View.Piece (Elt Ideal) S256x768 .bf16) :=
  [⟨Rect.unit (s := S256x768) ![0, 512] S256x256.size inb_S256x768_S256x256_0_512, k0_pay58 (F := Ideal) (hid2 X xe w m k b m2 k2) 4294967169#32 127#32⟩,
   ⟨Rect.unit (s := S256x768) ![0, 256] S256x256.size inb_S256x768_S256x256_0_256, k0_pay51 (F := Ideal) m2 (Scalar.subi k2 1#32) (Scalar.minsi (Scalar.subi k2 1#32) 16#32) (hid1 X xe w m k b k2) (gate1 X xe w m k b k2)⟩,
   ⟨Rect.unit (s := S256x768) ![0, 0] S256x256.size inb_S256x768_S256x256_0_0, k0_pay42 (F := Ideal) (hid0 X xe w m k b) (gate0 X xe w m k b) k0_pay39 m2 k2⟩]

variable {X} {xe} {w} {m} {k} {b} {m2} {k2} {a : Fin 256 → Fin 2880 → BitVec 8} (hX : ∀ r d, X (ix2 r d) = real8 (a r d))
include hX

/-- Tile 0's code word. -/
theorem tile0 (r c : Fin 256) (f : Fin 768) (hf : (f : ℕ) = 0 + c) :
    k0_pay40 (F := Ideal) (hid0 X xe w m k b) (gate0 X xe w m k b) k0_pay39 m2 k2 (ix2 r c)
      = codeWord (dot (a r) (fun d => w (ix2 d f))) (m (ix2 0 f)) (k (ix2 0 f)) (b (ix2 0 f)) (xe (ix2 r 0)) m2 k2 := by
  unfold hid0 gate0
  rw [word0]
  unfold acc0
  rw [slabs (a r) (fun d => w (ix2 d f)) (fun d => (ld_at r d r _ (by simp) (by simp)).trans (hX r _)) (fun d => (ld_at r d r _ (by simp) (by simp)).trans (hX r _))
    (fun d => (ld_at r d r _ (by simp) (by simp)).trans (hX r _)) (fun d => ld_at d c _ f (by simp) hf) (fun d => ld_at d c _ f (by simp) hf)
    (fun d => ld_at d c _ f (by simp) hf)]
  rw [ld_at 0 c 0 f (by simp) hf, ld_at 0 c 0 f (by simp) hf, ld_at 0 c 0 f (by simp) hf, ld_at r 0 r 0 (by simp) (by simp)]

/-- Tile 1's code word. -/
theorem tile1 (r c : Fin 256) (f : Fin 768) (hf : (f : ℕ) = 256 + c) :
    k0_pay49 (F := Ideal) m2 (Scalar.subi k2 1#32) (Scalar.minsi (Scalar.subi k2 1#32) 16#32) (hid1 X xe w m k b k2) (gate1 X xe w m k b k2) (ix2 r c)
      = codeWord (dot (a r) (fun d => w (ix2 d f))) (m (ix2 0 f)) (k (ix2 0 f)) (b (ix2 0 f)) (xe (ix2 r 0)) m2 k2 := by
  unfold hid1 gate1 acc1
  rw [word1]
  rw [slabs (a r) (fun d => w (ix2 d f)) (fun d => (ld_at r d r _ (by simp) (by simp)).trans (hX r _)) (fun d => (ld_at r d r _ (by simp) (by simp)).trans (hX r _))
    (fun d => (ld_at r d r _ (by simp) (by simp)).trans (hX r _)) (fun d => ld_at d c _ f (by simp) hf) (fun d => ld_at d c _ f (by simp) hf)
    (fun d => ld_at d c _ f (by simp) hf)]
  rw [ld_at 0 c 0 f (by simp) hf, ld_at 0 c 0 f (by simp) hf, ld_at 0 c 0 f (by simp) hf, ld_at r 0 r 0 (by simp) (by simp)]

/-- Tile 2's code word. -/
theorem tile2 (r c : Fin 256) (f : Fin 768) (hf : (f : ℕ) = 512 + c) :
    k0_pay56 (hid2 X xe w m k b m2 k2) 4294967169#32 127#32 (ix2 r c)
      = codeWord (dot (a r) (fun d => w (ix2 d f))) (m (ix2 0 f)) (k (ix2 0 f)) (b (ix2 0 f)) (xe (ix2 r 0)) m2 k2 := by
  unfold hid2 acc2
  rw [word2]
  rw [slabs (a r) (fun d => w (ix2 d f)) (fun d => (ld_at r d r _ (by simp) (by simp)).trans (hX r _)) (fun d => (ld_at r d r _ (by simp) (by simp)).trans (hX r _))
    (fun d => (ld_at r d r _ (by simp) (by simp)).trans (hX r _)) (fun d => ld_at d c _ f (by simp) hf) (fun d => ld_at d c _ f (by simp) hf)
    (fun d => ld_at d c _ f (by simp) hf)]
  rw [ld_at 0 c 0 f (by simp) hf, ld_at 0 c 0 f (by simp) hf, ld_at 0 c 0 f (by simp) hf, ld_at r 0 r 0 (by simp) (by simp)]

/-- The tiles hold the block's codes. -/
theorem tiles17_val : ∀ p ∈ tiles17 X xe w m k b m2 k2, ∀ x, p.2 x = codesOf a xe w m k b m2 k2 (p.1.emb x) := by
  intro p hp
  unfold tiles17 at hp
  simp only [List.mem_cons, List.not_mem_nil, or_false] at hp
  rcases hp with rfl | rfl | rfl
  · refine fun x => piece_at (n := 256) (m := 768) (p := 256) (q := 256) (inb := inb_S256x768_S256x256_0_512) ?_ x
    intro i j i' j' h1 h2
    obtain rfl : i = i' := Fin.ext (by omega)
    exact store2.trans (congrArg (BitVec.setWidth 8) (tile2 hX i j j' h2))
  · refine fun x => piece_at (n := 256) (m := 768) (p := 256) (q := 256) (inb := inb_S256x768_S256x256_0_256) ?_ x
    intro i j i' j' h1 h2
    obtain rfl : i = i' := Fin.ext (by omega)
    exact store1.trans (congrArg (BitVec.setWidth 8) (tile1 hX i j j' h2))
  · refine fun x => piece_at (n := 256) (m := 768) (p := 256) (q := 256) (inb := inb_S256x768_S256x256_0_0) ?_ x
    intro i j i' j' h1 h2
    obtain rfl : i = i' := Fin.ext (by omega)
    exact store0.trans (congrArg (BitVec.setWidth 8) (tile0 hX i j j' h2))

/-- The kept tiles hold the codes' real values. -/
theorem tiles22_val : ∀ p ∈ tiles22 X xe w m k b m2 k2, ∀ x, p.2 x = keptOf a xe w m k b m2 k2 (p.1.emb x) := by
  intro p hp
  unfold tiles22 at hp
  simp only [List.mem_cons, List.not_mem_nil, or_false] at hp
  rcases hp with rfl | rfl | rfl
  · refine fun x => piece_at (n := 256) (m := 768) (p := 256) (q := 256) (inb := inb_S256x768_S256x256_0_512) ?_ x
    intro i j i' j' h1 h2
    obtain rfl : i = i' := Fin.ext (by omega)
    exact keep2.trans ((congrArg (Scalar.sitofp (F := Ideal) .f32) (tile2 hX i j j' h2)).trans real_of_word)
  · refine fun x => piece_at (n := 256) (m := 768) (p := 256) (q := 256) (inb := inb_S256x768_S256x256_0_256) ?_ x
    intro i j i' j' h1 h2
    obtain rfl : i = i' := Fin.ext (by omega)
    exact keep1.trans ((congrArg (Scalar.sitofp (F := Ideal) .f32) (tile1 hX i j j' h2)).trans real_of_word)
  · refine fun x => piece_at (n := 256) (m := 768) (p := 256) (q := 256) (inb := inb_S256x768_S256x256_0_0) ?_ x
    intro i j i' j' h1 h2
    obtain rfl : i = i' := Fin.ext (by omega)
    exact keep0.trans ((congrArg (Scalar.sitofp (F := Ideal) .f32) (tile0 hX i j j' h2)).trans real_of_word)

end

/-! ## The second product's slabs -/

section
variable (gb : FVec Ideal S256x768 .bf16) (w2 : IVec S768x2880 8)

/-- The twelve column slabs of the accumulator, last first, from the slabs `s0 … s11` held before. -/
def slabs23 (s0 s1 s2 s3 s4 s5 s6 s7 s8 s9 s10 : IVec S256x256 32) (s11 : IVec S256x64 32) : List (View.Piece (Elt Ideal) S256x2880 .i32) :=
  [⟨Rect.unit (s := S256x2880) ![0, 2816] ![256, 64] inb_S256x2880_S256x64_0_2816, k0_pay1 (F := Ideal) gb (View.ld w2 (Rect.unit (s := S768x2880) ![0, 2816] ![768, 64] inb_S768x2880_S768x64_0_2816)) s11⟩,
   ⟨Rect.unit (s := S256x2880) ![0, 2560] S256x256.size inb_S256x2880_S256x256_0_2560, k0_pay69 (F := Ideal) gb (View.ld w2 (Rect.unit (s := S768x2880) ![0, 2560] S768x256.size inb_S768x2880_S768x256_0_2560)) s10⟩,
   ⟨Rect.unit (s := S256x2880) ![0, 2304] S256x256.size inb_S256x2880_S256x256_0_2304, k0_pay68 (F := Ideal) gb (View.ld w2 (Rect.unit (s := S768x2880) ![0, 2304] S768x256.size inb_S768x2880_S768x256_0_2304)) s9⟩,
   ⟨Rect.unit (s := S256x2880) ![0, 2048] S256x256.size inb_S256x2880_S256x256_0_2048, k0_pay67 (F := Ideal) gb (View.ld w2 (Rect.unit (s := S768x2880) ![0, 2048] S768x256.size inb_S768x2880_S768x256_0_2048)) s8⟩,
   ⟨Rect.unit (s := S256x2880) ![0, 1792] S256x256.size inb_S256x2880_S256x256_0_1792, k0_pay66 (F := Ideal) gb (View.ld w2 (Rect.unit (s := S768x2880) ![0, 1792] S768x256.size inb_S768x2880_S768x256_0_1792)) s7⟩,
   ⟨Rect.unit (s := S256x2880) ![0, 1536] S256x256.size inb_S256x2880_S256x256_0_1536, k0_pay65 (F := Ideal) gb (View.ld w2 (Rect.unit (s := S768x2880) ![0, 1536] S768x256.size inb_S768x2880_S768x256_0_1536)) s6⟩,
   ⟨Rect.unit (s := S256x2880) ![0, 1280] S256x256.size inb_S256x2880_S256x256_0_1280, k0_pay64 (F := Ideal) gb (View.ld w2 (Rect.unit (s := S768x2880) ![0, 1280] S768x256.size inb_S768x2880_S768x256_0_1280)) s5⟩,
   ⟨Rect.unit (s := S256x2880) ![0, 1024] S256x256.size inb_S256x2880_S256x256_0_1024, k0_pay63 (F := Ideal) gb (View.ld w2 (Rect.unit (s := S768x2880) ![0, 1024] S768x256.size inb_S768x2880_S768x256_0_1024)) s4⟩,
   ⟨Rect.unit (s := S256x2880) ![0, 768] S256x256.size inb_S256x2880_S256x256_0_768, k0_pay62 (F := Ideal) gb (View.ld w2 (Rect.unit (s := S768x2880) ![0, 768] S768x256.size inb_S768x2880_S768x256_0_768)) s3⟩,
   ⟨Rect.unit (s := S256x2880) ![0, 512] S256x256.size inb_S256x2880_S256x256_0_512, k0_pay61 (F := Ideal) gb (View.ld w2 (Rect.unit (s := S768x2880) ![0, 512] S768x256.size inb_S768x2880_S768x256_0_512)) s2⟩,
   ⟨Rect.unit (s := S256x2880) ![0, 256] S256x256.size inb_S256x2880_S256x256_0_256, k0_pay60 (F := Ideal) gb (View.ld w2 (Rect.unit (s := S768x2880) ![0, 256] S768x256.size inb_S768x2880_S768x256_0_256)) s1⟩,
   ⟨Rect.unit (s := S256x2880) ![0, 0] S256x256.size inb_S256x2880_S256x256_0_0, k0_pay59 (F := Ideal) gb (View.ld w2 (Rect.unit (s := S768x2880) ![0, 0] S768x256.size inb_S768x2880_S768x256_0_0)) s0⟩]

theorem add0 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay59 (F := Ideal) gb w s (ix2 r c) = IntOp.addi (s (ix2 r c)) (dot p q) := by
  unfold k0_pay59
  simp only [pointwise, hg, hw]
  rw [← fptosi_sum p q (by norm_num)]
  rfl
theorem add1 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay60 (F := Ideal) gb w s (ix2 r c) = IntOp.addi (s (ix2 r c)) (dot p q) := by
  unfold k0_pay60
  simp only [pointwise, hg, hw]
  rw [← fptosi_sum p q (by norm_num)]
  rfl
theorem add2 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay61 (F := Ideal) gb w s (ix2 r c) = IntOp.addi (s (ix2 r c)) (dot p q) := by
  unfold k0_pay61
  simp only [pointwise, hg, hw]
  rw [← fptosi_sum p q (by norm_num)]
  rfl
theorem add3 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay62 (F := Ideal) gb w s (ix2 r c) = IntOp.addi (s (ix2 r c)) (dot p q) := by
  unfold k0_pay62
  simp only [pointwise, hg, hw]
  rw [← fptosi_sum p q (by norm_num)]
  rfl
theorem add4 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay63 (F := Ideal) gb w s (ix2 r c) = IntOp.addi (s (ix2 r c)) (dot p q) := by
  unfold k0_pay63
  simp only [pointwise, hg, hw]
  rw [← fptosi_sum p q (by norm_num)]
  rfl
theorem add5 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay64 (F := Ideal) gb w s (ix2 r c) = IntOp.addi (s (ix2 r c)) (dot p q) := by
  unfold k0_pay64
  simp only [pointwise, hg, hw]
  rw [← fptosi_sum p q (by norm_num)]
  rfl
theorem add6 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay65 (F := Ideal) gb w s (ix2 r c) = IntOp.addi (s (ix2 r c)) (dot p q) := by
  unfold k0_pay65
  simp only [pointwise, hg, hw]
  rw [← fptosi_sum p q (by norm_num)]
  rfl
theorem add7 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay66 (F := Ideal) gb w s (ix2 r c) = IntOp.addi (s (ix2 r c)) (dot p q) := by
  unfold k0_pay66
  simp only [pointwise, hg, hw]
  rw [← fptosi_sum p q (by norm_num)]
  rfl
theorem add8 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay67 (F := Ideal) gb w s (ix2 r c) = IntOp.addi (s (ix2 r c)) (dot p q) := by
  unfold k0_pay67
  simp only [pointwise, hg, hw]
  rw [← fptosi_sum p q (by norm_num)]
  rfl
theorem add9 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay68 (F := Ideal) gb w s (ix2 r c) = IntOp.addi (s (ix2 r c)) (dot p q) := by
  unfold k0_pay68
  simp only [pointwise, hg, hw]
  rw [← fptosi_sum p q (by norm_num)]
  rfl
theorem add10 {gb : FVec Ideal S256x768 .bf16} {w : IVec S768x256 8} {s : IVec S256x256 32} {r : Fin 256} {c : Fin 256} (p q : Fin 768 → BitVec 8)
    (hg : ∀ d, gb (ix2 r d) = real8 (p d)) (hw : ∀ d, w (ix2 d c) = q d) : k0_pay69 (F := Ideal) gb w s (ix2 r c) = IntOp.addi (s (ix2 r c)) (dot p q) := by
  unfold k0_pay69
  simp only [pointwise, hg, hw]
  rw [← fptosi_sum p q (by norm_num)]
  rfl
theorem add11 {gb : FVec Ideal S256x768 .bf16} {w : IVec S768x64 8} {s : IVec S256x64 32} {r : Fin 256} {c : Fin 64} (p q : Fin 768 → BitVec 8)
    (hg : ∀ d, gb (ix2 r d) = real8 (p d)) (hw : ∀ d, w (ix2 d c) = q d) : k0_pay1 (F := Ideal) gb w s (ix2 r c) = IntOp.addi (s (ix2 r c)) (dot p q) := by
  unfold k0_pay1
  simp only [pointwise, hg, hw]
  rw [← fptosi_sum p q (by norm_num)]
  rfl

variable {gb} {w2} {s0 s1 s2 s3 s4 s5 s6 s7 s8 s9 s10 : IVec S256x256 32} {s11 : IVec S256x64 32} {g : Fin 256 → Fin 768 → BitVec 8} {z : Fin 256 → Fin 2880 → BitVec 32}

/-- The slabs hold what was there plus the block's part of the second product. -/
theorem slabs23_val (hg : ∀ r f, gb (ix2 r f) = real8 (g r f))
    (h0 : ∀ (r c : Fin 256) (d : Fin 2880), (d : ℕ) = 0 + c → s0 (ix2 r c) = z r d) (h1 : ∀ (r c : Fin 256) (d : Fin 2880), (d : ℕ) = 256 + c → s1 (ix2 r c) = z r d) (h2 : ∀ (r c : Fin 256) (d : Fin 2880), (d : ℕ) = 512 + c → s2 (ix2 r c) = z r d) (h3 : ∀ (r c : Fin 256) (d : Fin 2880), (d : ℕ) = 768 + c → s3 (ix2 r c) = z r d) (h4 : ∀ (r c : Fin 256) (d : Fin 2880), (d : ℕ) = 1024 + c → s4 (ix2 r c) = z r d) (h5 : ∀ (r c : Fin 256) (d : Fin 2880), (d : ℕ) = 1280 + c → s5 (ix2 r c) = z r d) (h6 : ∀ (r c : Fin 256) (d : Fin 2880), (d : ℕ) = 1536 + c → s6 (ix2 r c) = z r d) (h7 : ∀ (r c : Fin 256) (d : Fin 2880), (d : ℕ) = 1792 + c → s7 (ix2 r c) = z r d) (h8 : ∀ (r c : Fin 256) (d : Fin 2880), (d : ℕ) = 2048 + c → s8 (ix2 r c) = z r d) (h9 : ∀ (r c : Fin 256) (d : Fin 2880), (d : ℕ) = 2304 + c → s9 (ix2 r c) = z r d) (h10 : ∀ (r c : Fin 256) (d : Fin 2880), (d : ℕ) = 2560 + c → s10 (ix2 r c) = z r d)
    (h11 : ∀ (r : Fin 256) (c : Fin 64) (d : Fin 2880), (d : ℕ) = 2816 + c → s11 (ix2 r c) = z r d) :
    ∀ p ∈ slabs23 gb w2 s0 s1 s2 s3 s4 s5 s6 s7 s8 s9 s10 s11, ∀ x, p.2 x
      = sumOf z g w2 (p.1.emb x) := by
  intro p hp
  unfold slabs23 at hp
  simp only [List.mem_cons, List.not_mem_nil, or_false] at hp
  rcases hp with rfl | rfl | rfl | rfl | rfl | rfl | rfl | rfl | rfl | rfl | rfl | rfl
  · refine fun x => piece_at (n := 256) (m := 2880) (p := 256) (q := 64) (inb := inb_S256x2880_S256x64_0_2816) ?_ x
    intro i j i' j' e1 e2
    obtain rfl : i = i' := Fin.ext (by omega)
    refine (add11 (g i) (fun f => w2 (ix2 f j')) (hg i) (fun d => ld_at (o1 := 0) d j d j' (Nat.zero_add _).symm e2)).trans ?_
    exact congrArg (fun t => IntOp.addi t _) (h11 i j j' e2)
  · refine fun x => piece_at (n := 256) (m := 2880) (p := 256) (q := 256) (inb := inb_S256x2880_S256x256_0_2560) ?_ x
    intro i j i' j' e1 e2
    obtain rfl : i = i' := Fin.ext (by omega)
    refine (add10 (g i) (fun f => w2 (ix2 f j')) (hg i) (fun d => ld_at (o1 := 0) d j d j' (Nat.zero_add _).symm e2)).trans ?_
    exact congrArg (fun t => IntOp.addi t _) (h10 i j j' e2)
  · refine fun x => piece_at (n := 256) (m := 2880) (p := 256) (q := 256) (inb := inb_S256x2880_S256x256_0_2304) ?_ x
    intro i j i' j' e1 e2
    obtain rfl : i = i' := Fin.ext (by omega)
    refine (add9 (g i) (fun f => w2 (ix2 f j')) (hg i) (fun d => ld_at (o1 := 0) d j d j' (Nat.zero_add _).symm e2)).trans ?_
    exact congrArg (fun t => IntOp.addi t _) (h9 i j j' e2)
  · refine fun x => piece_at (n := 256) (m := 2880) (p := 256) (q := 256) (inb := inb_S256x2880_S256x256_0_2048) ?_ x
    intro i j i' j' e1 e2
    obtain rfl : i = i' := Fin.ext (by omega)
    refine (add8 (g i) (fun f => w2 (ix2 f j')) (hg i) (fun d => ld_at (o1 := 0) d j d j' (Nat.zero_add _).symm e2)).trans ?_
    exact congrArg (fun t => IntOp.addi t _) (h8 i j j' e2)
  · refine fun x => piece_at (n := 256) (m := 2880) (p := 256) (q := 256) (inb := inb_S256x2880_S256x256_0_1792) ?_ x
    intro i j i' j' e1 e2
    obtain rfl : i = i' := Fin.ext (by omega)
    refine (add7 (g i) (fun f => w2 (ix2 f j')) (hg i) (fun d => ld_at (o1 := 0) d j d j' (Nat.zero_add _).symm e2)).trans ?_
    exact congrArg (fun t => IntOp.addi t _) (h7 i j j' e2)
  · refine fun x => piece_at (n := 256) (m := 2880) (p := 256) (q := 256) (inb := inb_S256x2880_S256x256_0_1536) ?_ x
    intro i j i' j' e1 e2
    obtain rfl : i = i' := Fin.ext (by omega)
    refine (add6 (g i) (fun f => w2 (ix2 f j')) (hg i) (fun d => ld_at (o1 := 0) d j d j' (Nat.zero_add _).symm e2)).trans ?_
    exact congrArg (fun t => IntOp.addi t _) (h6 i j j' e2)
  · refine fun x => piece_at (n := 256) (m := 2880) (p := 256) (q := 256) (inb := inb_S256x2880_S256x256_0_1280) ?_ x
    intro i j i' j' e1 e2
    obtain rfl : i = i' := Fin.ext (by omega)
    refine (add5 (g i) (fun f => w2 (ix2 f j')) (hg i) (fun d => ld_at (o1 := 0) d j d j' (Nat.zero_add _).symm e2)).trans ?_
    exact congrArg (fun t => IntOp.addi t _) (h5 i j j' e2)
  · refine fun x => piece_at (n := 256) (m := 2880) (p := 256) (q := 256) (inb := inb_S256x2880_S256x256_0_1024) ?_ x
    intro i j i' j' e1 e2
    obtain rfl : i = i' := Fin.ext (by omega)
    refine (add4 (g i) (fun f => w2 (ix2 f j')) (hg i) (fun d => ld_at (o1 := 0) d j d j' (Nat.zero_add _).symm e2)).trans ?_
    exact congrArg (fun t => IntOp.addi t _) (h4 i j j' e2)
  · refine fun x => piece_at (n := 256) (m := 2880) (p := 256) (q := 256) (inb := inb_S256x2880_S256x256_0_768) ?_ x
    intro i j i' j' e1 e2
    obtain rfl : i = i' := Fin.ext (by omega)
    refine (add3 (g i) (fun f => w2 (ix2 f j')) (hg i) (fun d => ld_at (o1 := 0) d j d j' (Nat.zero_add _).symm e2)).trans ?_
    exact congrArg (fun t => IntOp.addi t _) (h3 i j j' e2)
  · refine fun x => piece_at (n := 256) (m := 2880) (p := 256) (q := 256) (inb := inb_S256x2880_S256x256_0_512) ?_ x
    intro i j i' j' e1 e2
    obtain rfl : i = i' := Fin.ext (by omega)
    refine (add2 (g i) (fun f => w2 (ix2 f j')) (hg i) (fun d => ld_at (o1 := 0) d j d j' (Nat.zero_add _).symm e2)).trans ?_
    exact congrArg (fun t => IntOp.addi t _) (h2 i j j' e2)
  · refine fun x => piece_at (n := 256) (m := 2880) (p := 256) (q := 256) (inb := inb_S256x2880_S256x256_0_256) ?_ x
    intro i j i' j' e1 e2
    obtain rfl : i = i' := Fin.ext (by omega)
    refine (add1 (g i) (fun f => w2 (ix2 f j')) (hg i) (fun d => ld_at (o1 := 0) d j d j' (Nat.zero_add _).symm e2)).trans ?_
    exact congrArg (fun t => IntOp.addi t _) (h1 i j j' e2)
  · refine fun x => piece_at (n := 256) (m := 2880) (p := 256) (q := 256) (inb := inb_S256x2880_S256x256_0_0) ?_ x
    intro i j i' j' e1 e2
    obtain rfl : i = i' := Fin.ext (by omega)
    refine (add0 (g i) (fun f => w2 (ix2 f j')) (hg i) (fun d => ld_at (o1 := 0) d j d j' (Nat.zero_add _).symm e2)).trans ?_
    exact congrArg (fun t => IntOp.addi t _) (h0 i j j' e2)

end

end Cert.Layer

end
-- ==== Proof.Layer.Grow.lean ====
/-
  The first block's accumulator: the whole array is cleared, then each column slab is read back and added to. `rd` says
  what a list of stores reads back as; a slab not yet added to reads zero.
-/
module

public import proofs.«01_k».proof.Proof.Layer.Block
public import Idealize.ShloMosaic.Lib.Ring
public import Idealize.ShloMosaic.Lib.Pipeline.CanonAppend

@[expose] public section

set_option maxRecDepth 16384

noncomputable section

namespace Cert.Layer

open Idealize.ShloMosaic Idealize.ShloMosaic.TcCoe Cert.KernelIdeal Cert.KernelIdeal.Gen

section
variable (rd : List (View.Piece (Elt Ideal) S256x2880 .i32) → IVec S256x2880 32) (gb : FVec Ideal S256x768 .bf16) (w2 : IVec S768x2880 8)

/-- The clearing store. -/
def grown0 : List (View.Piece (Elt Ideal) S256x2880 .i32) :=
  [⟨Rect.unit (s := S256x2880) ![0, 0] S256x2880.size inb_S256x2880_S256x2880_0_0, k0_pay31⟩]

/-- Then slab 0. -/
def grown1 : List (View.Piece (Elt Ideal) S256x2880 .i32) :=
  ⟨Rect.unit (s := S256x2880) ![0, 0] S256x256.size inb_S256x2880_S256x256_0_0,
    k0_pay59 (F := Ideal) gb (View.ld w2 (Rect.unit (s := S768x2880) ![0, 0] S768x256.size inb_S768x2880_S768x256_0_0)) (View.ld (Val := Elt Ideal) (S := S256x2880) (e' := .i32) (rd (grown0)) (Rect.unit (s := S256x2880) ![0, 0] S256x256.size inb_S256x2880_S256x256_0_0))⟩ :: (grown0)

/-- Then slab 1. -/
def grown2 : List (View.Piece (Elt Ideal) S256x2880 .i32) :=
  ⟨Rect.unit (s := S256x2880) ![0, 256] S256x256.size inb_S256x2880_S256x256_0_256,
    k0_pay60 (F := Ideal) gb (View.ld w2 (Rect.unit (s := S768x2880) ![0, 256] S768x256.size inb_S768x2880_S768x256_0_256)) (View.ld (Val := Elt Ideal) (S := S256x2880) (e' := .i32) (rd (grown1 rd gb w2)) (Rect.unit (s := S256x2880) ![0, 256] S256x256.size inb_S256x2880_S256x256_0_256))⟩ :: (grown1 rd gb w2)

/-- Then slab 2. -/
def grown3 : List (View.Piece (Elt Ideal) S256x2880 .i32) :=
  ⟨Rect.unit (s := S256x2880) ![0, 512] S256x256.size inb_S256x2880_S256x256_0_512,
    k0_pay61 (F := Ideal) gb (View.ld w2 (Rect.unit (s := S768x2880) ![0, 512] S768x256.size inb_S768x2880_S768x256_0_512)) (View.ld (Val := Elt Ideal) (S := S256x2880) (e' := .i32) (rd (grown2 rd gb w2)) (Rect.unit (s := S256x2880) ![0, 512] S256x256.size inb_S256x2880_S256x256_0_512))⟩ :: (grown2 rd gb w2)

/-- Then slab 3. -/
def grown4 : List (View.Piece (Elt Ideal) S256x2880 .i32) :=
  ⟨Rect.unit (s := S256x2880) ![0, 768] S256x256.size inb_S256x2880_S256x256_0_768,
    k0_pay62 (F := Ideal) gb (View.ld w2 (Rect.unit (s := S768x2880) ![0, 768] S768x256.size inb_S768x2880_S768x256_0_768)) (View.ld (Val := Elt Ideal) (S := S256x2880) (e' := .i32) (rd (grown3 rd gb w2)) (Rect.unit (s := S256x2880) ![0, 768] S256x256.size inb_S256x2880_S256x256_0_768))⟩ :: (grown3 rd gb w2)

/-- Then slab 4. -/
def grown5 : List (View.Piece (Elt Ideal) S256x2880 .i32) :=
  ⟨Rect.unit (s := S256x2880) ![0, 1024] S256x256.size inb_S256x2880_S256x256_0_1024,
    k0_pay63 (F := Ideal) gb (View.ld w2 (Rect.unit (s := S768x2880) ![0, 1024] S768x256.size inb_S768x2880_S768x256_0_1024)) (View.ld (Val := Elt Ideal) (S := S256x2880) (e' := .i32) (rd (grown4 rd gb w2)) (Rect.unit (s := S256x2880) ![0, 1024] S256x256.size inb_S256x2880_S256x256_0_1024))⟩ :: (grown4 rd gb w2)

/-- Then slab 5. -/
def grown6 : List (View.Piece (Elt Ideal) S256x2880 .i32) :=
  ⟨Rect.unit (s := S256x2880) ![0, 1280] S256x256.size inb_S256x2880_S256x256_0_1280,
    k0_pay64 (F := Ideal) gb (View.ld w2 (Rect.unit (s := S768x2880) ![0, 1280] S768x256.size inb_S768x2880_S768x256_0_1280)) (View.ld (Val := Elt Ideal) (S := S256x2880) (e' := .i32) (rd (grown5 rd gb w2)) (Rect.unit (s := S256x2880) ![0, 1280] S256x256.size inb_S256x2880_S256x256_0_1280))⟩ :: (grown5 rd gb w2)

/-- Then slab 6. -/
def grown7 : List (View.Piece (Elt Ideal) S256x2880 .i32) :=
  ⟨Rect.unit (s := S256x2880) ![0, 1536] S256x256.size inb_S256x2880_S256x256_0_1536,
    k0_pay65 (F := Ideal) gb (View.ld w2 (Rect.unit (s := S768x2880) ![0, 1536] S768x256.size inb_S768x2880_S768x256_0_1536)) (View.ld (Val := Elt Ideal) (S := S256x2880) (e' := .i32) (rd (grown6 rd gb w2)) (Rect.unit (s := S256x2880) ![0, 1536] S256x256.size inb_S256x2880_S256x256_0_1536))⟩ :: (grown6 rd gb w2)

/-- Then slab 7. -/
def grown8 : List (View.Piece (Elt Ideal) S256x2880 .i32) :=
  ⟨Rect.unit (s := S256x2880) ![0, 1792] S256x256.size inb_S256x2880_S256x256_0_1792,
    k0_pay66 (F := Ideal) gb (View.ld w2 (Rect.unit (s := S768x2880) ![0, 1792] S768x256.size inb_S768x2880_S768x256_0_1792)) (View.ld (Val := Elt Ideal) (S := S256x2880) (e' := .i32) (rd (grown7 rd gb w2)) (Rect.unit (s := S256x2880) ![0, 1792] S256x256.size inb_S256x2880_S256x256_0_1792))⟩ :: (grown7 rd gb w2)

/-- Then slab 8. -/
def grown9 : List (View.Piece (Elt Ideal) S256x2880 .i32) :=
  ⟨Rect.unit (s := S256x2880) ![0, 2048] S256x256.size inb_S256x2880_S256x256_0_2048,
    k0_pay67 (F := Ideal) gb (View.ld w2 (Rect.unit (s := S768x2880) ![0, 2048] S768x256.size inb_S768x2880_S768x256_0_2048)) (View.ld (Val := Elt Ideal) (S := S256x2880) (e' := .i32) (rd (grown8 rd gb w2)) (Rect.unit (s := S256x2880) ![0, 2048] S256x256.size inb_S256x2880_S256x256_0_2048))⟩ :: (grown8 rd gb w2)

/-- Then slab 9. -/
def grown10 : List (View.Piece (Elt Ideal) S256x2880 .i32) :=
  ⟨Rect.unit (s := S256x2880) ![0, 2304] S256x256.size inb_S256x2880_S256x256_0_2304,
    k0_pay68 (F := Ideal) gb (View.ld w2 (Rect.unit (s := S768x2880) ![0, 2304] S768x256.size inb_S768x2880_S768x256_0_2304)) (View.ld (Val := Elt Ideal) (S := S256x2880) (e' := .i32) (rd (grown9 rd gb w2)) (Rect.unit (s := S256x2880) ![0, 2304] S256x256.size inb_S256x2880_S256x256_0_2304))⟩ :: (grown9 rd gb w2)

/-- Then slab 10. -/
def grown11 : List (View.Piece (Elt Ideal) S256x2880 .i32) :=
  ⟨Rect.unit (s := S256x2880) ![0, 2560] S256x256.size inb_S256x2880_S256x256_0_2560,
    k0_pay69 (F := Ideal) gb (View.ld w2 (Rect.unit (s := S768x2880) ![0, 2560] S768x256.size inb_S768x2880_S768x256_0_2560)) (View.ld (Val := Elt Ideal) (S := S256x2880) (e' := .i32) (rd (grown10 rd gb w2)) (Rect.unit (s := S256x2880) ![0, 2560] S256x256.size inb_S256x2880_S256x256_0_2560))⟩ :: (grown10 rd gb w2)

/-- Then slab 11. -/
def grown12 : List (View.Piece (Elt Ideal) S256x2880 .i32) :=
  ⟨Rect.unit (s := S256x2880) ![0, 2816] ![256, 64] inb_S256x2880_S256x64_0_2816,
    k0_pay1 (F := Ideal) gb (View.ld w2 (Rect.unit (s := S768x2880) ![0, 2816] ![768, 64] inb_S768x2880_S768x64_0_2816)) (View.ld (Val := Elt Ideal) (S := S256x2880) (e' := .i32) (rd (grown11 rd gb w2)) (Rect.unit (s := S256x2880) ![0, 2816] ![256, 64] inb_S256x2880_S256x64_0_2816))⟩ :: (grown11 rd gb w2)

/-- A slab store left of an index does not change it. -/
theorem canon_skip (o : ℕ) {inb : ∀ a, (![0, o] : Fin 2 → ℕ) a + (![256, 256] : Fin 2 → ℕ) a ≤ S256x2880.size a} (v : IVec S256x256 32)
    (L : List (View.Piece (Elt Ideal) S256x2880 .i32)) {y : S256x2880.Idx} (h : o + 256 ≤ (y 1).val) :
    View.canon (⟨Rect.unit (s := S256x2880) ![0, o] S256x256.size inb, v⟩ :: L) y = View.canon L y :=
  View.canon_cons_of_not_mem ⟨Rect.unit (s := S256x2880) ![0, o] S256x256.size inb, v⟩ L
    (show y ∉ (Rect.unit (s := S256x2880) ![0, o] S256x256.size inb).set from
      not_mem_right (n := 256) (m := 2880) (p := 256) (q := 256) (inb := inb) h)

/-- The cleared array. -/
theorem grown0_zero (y : S256x2880.Idx) : View.canon grown0 y = 0#32 := by
  exact View.canon_apply_of_pieces (fun _ => 0#32) grown0 (by
    intro p hp x
    unfold grown0 at hp
    simp only [List.mem_cons, List.not_mem_nil, or_false] at hp
    subst hp
    show k0_pay31 x = _
    unfold k0_pay31
    simp only [pointwise]) y (View.cover_of_tiledBy grown0 ![256, 64] (by sl_kernel_rfl) y)

theorem grown1_zero {y : S256x2880.Idx} (h : 256 ≤ (y 1).val) : View.canon (grown1 rd gb w2) y = 0#32 := by
  unfold grown1
  exact (canon_skip 0 _ _ (by omega)).trans (grown0_zero y)

theorem grown2_zero {y : S256x2880.Idx} (h : 512 ≤ (y 1).val) : View.canon (grown2 rd gb w2) y = 0#32 := by
  unfold grown2
  exact (canon_skip 256 _ _ (by omega)).trans (grown1_zero rd gb w2 (by omega))

theorem grown3_zero {y : S256x2880.Idx} (h : 768 ≤ (y 1).val) : View.canon (grown3 rd gb w2) y = 0#32 := by
  unfold grown3
  exact (canon_skip 512 _ _ (by omega)).trans (grown2_zero rd gb w2 (by omega))

theorem grown4_zero {y : S256x2880.Idx} (h : 1024 ≤ (y 1).val) : View.canon (grown4 rd gb w2) y = 0#32 := by
  unfold grown4
  exact (canon_skip 768 _ _ (by omega)).trans (grown3_zero rd gb w2 (by omega))

theorem grown5_zero {y : S256x2880.Idx} (h : 1280 ≤ (y 1).val) : View.canon (grown5 rd gb w2) y = 0#32 := by
  unfold grown5
  exact (canon_skip 1024 _ _ (by omega)).trans (grown4_zero rd gb w2 (by omega))

theorem grown6_zero {y : S256x2880.Idx} (h : 1536 ≤ (y 1).val) : View.canon (grown6 rd gb w2) y = 0#32 := by
  unfold grown6
  exact (canon_skip 1280 _ _ (by omega)).trans (grown5_zero rd gb w2 (by omega))

theorem grown7_zero {y : S256x2880.Idx} (h : 1792 ≤ (y 1).val) : View.canon (grown7 rd gb w2) y = 0#32 := by
  unfold grown7
  exact (canon_skip 1536 _ _ (by omega)).trans (grown6_zero rd gb w2 (by omega))

theorem grown8_zero {y : S256x2880.Idx} (h : 2048 ≤ (y 1).val) : View.canon (grown8 rd gb w2) y = 0#32 := by
  unfold grown8
  exact (canon_skip 1792 _ _ (by omega)).trans (grown7_zero rd gb w2 (by omega))

theorem grown9_zero {y : S256x2880.Idx} (h : 2304 ≤ (y 1).val) : View.canon (grown9 rd gb w2) y = 0#32 := by
  unfold grown9
  exact (canon_skip 2048 _ _ (by omega)).trans (grown8_zero rd gb w2 (by omega))

theorem grown10_zero {y : S256x2880.Idx} (h : 2560 ≤ (y 1).val) : View.canon (grown10 rd gb w2) y = 0#32 := by
  unfold grown10
  exact (canon_skip 2304 _ _ (by omega)).trans (grown9_zero rd gb w2 (by omega))

theorem grown11_zero {y : S256x2880.Idx} (h : 2816 ≤ (y 1).val) : View.canon (grown11 rd gb w2) y = 0#32 := by
  unfold grown11
  exact (canon_skip 2560 _ _ (by omega)).trans (grown10_zero rd gb w2 (by omega))

/-- All the stores: the twelve slabs over the clearing store. -/
theorem grown12_eq : grown12 rd gb w2 = slabs23 gb w2 (View.ld (Val := Elt Ideal) (S := S256x2880) (e' := .i32) (rd (grown0)) (Rect.unit (s := S256x2880) ![0, 0] S256x256.size inb_S256x2880_S256x256_0_0)) (View.ld (Val := Elt Ideal) (S := S256x2880) (e' := .i32) (rd (grown1 rd gb w2)) (Rect.unit (s := S256x2880) ![0, 256] S256x256.size inb_S256x2880_S256x256_0_256)) (View.ld (Val := Elt Ideal) (S := S256x2880) (e' := .i32) (rd (grown2 rd gb w2)) (Rect.unit (s := S256x2880) ![0, 512] S256x256.size inb_S256x2880_S256x256_0_512)) (View.ld (Val := Elt Ideal) (S := S256x2880) (e' := .i32) (rd (grown3 rd gb w2)) (Rect.unit (s := S256x2880) ![0, 768] S256x256.size inb_S256x2880_S256x256_0_768)) (View.ld (Val := Elt Ideal) (S := S256x2880) (e' := .i32) (rd (grown4 rd gb w2)) (Rect.unit (s := S256x2880) ![0, 1024] S256x256.size inb_S256x2880_S256x256_0_1024)) (View.ld (Val := Elt Ideal) (S := S256x2880) (e' := .i32) (rd (grown5 rd gb w2)) (Rect.unit (s := S256x2880) ![0, 1280] S256x256.size inb_S256x2880_S256x256_0_1280)) (View.ld (Val := Elt Ideal) (S := S256x2880) (e' := .i32) (rd (grown6 rd gb w2)) (Rect.unit (s := S256x2880) ![0, 1536] S256x256.size inb_S256x2880_S256x256_0_1536)) (View.ld (Val := Elt Ideal) (S := S256x2880) (e' := .i32) (rd (grown7 rd gb w2)) (Rect.unit (s := S256x2880) ![0, 1792] S256x256.size inb_S256x2880_S256x256_0_1792)) (View.ld (Val := Elt Ideal) (S := S256x2880) (e' := .i32) (rd (grown8 rd gb w2)) (Rect.unit (s := S256x2880) ![0, 2048] S256x256.size inb_S256x2880_S256x256_0_2048)) (View.ld (Val := Elt Ideal) (S := S256x2880) (e' := .i32) (rd (grown9 rd gb w2)) (Rect.unit (s := S256x2880) ![0, 2304] S256x256.size inb_S256x2880_S256x256_0_2304)) (View.ld (Val := Elt Ideal) (S := S256x2880) (e' := .i32) (rd (grown10 rd gb w2)) (Rect.unit (s := S256x2880) ![0, 2560] S256x256.size inb_S256x2880_S256x256_0_2560)) (View.ld (Val := Elt Ideal) (S := S256x2880) (e' := .i32) (rd (grown11 rd gb w2)) (Rect.unit (s := S256x2880) ![0, 2816] ![256, 64] inb_S256x2880_S256x64_0_2816)) ++ grown0 := rfl

end

/-- The slabs cover the array. -/
theorem slabs23_cover (gb : FVec Ideal S256x768 .bf16) (w2 : IVec S768x2880 8) (s0 s1 s2 s3 s4 s5 s6 s7 s8 s9 s10 : IVec S256x256 32) (s11 : IVec S256x64 32)
    (y : S256x2880.Idx) : ∃ p ∈ slabs23 gb w2 s0 s1 s2 s3 s4 s5 s6 s7 s8 s9 s10 s11, y ∈ p.1.set :=
  View.cover_of_tiledBy (slabs23 gb w2 s0 s1 s2 s3 s4 s5 s6 s7 s8 s9 s10 s11) ![256, 64] (by sl_kernel_rfl) y

/-- The tiles of codes cover a block. -/
theorem tiles17_cover (X : FVec Ideal S256x2880 .bf16) (xe : IVec S256x1 32) (w : IVec S2880x768 8) (m k b : IVec S1x768 32) (m2 k2 : BitVec 32)
    (y : S256x768.Idx) : ∃ p ∈ tiles17 X xe w m k b m2 k2, y ∈ p.1.set :=
  View.cover_of_tiledBy (tiles17 X xe w m k b m2 k2) ![256, 256] (by sl_kernel_rfl) y

/-- So do the kept ones. -/
theorem tiles22_cover (X : FVec Ideal S256x2880 .bf16) (xe : IVec S256x1 32) (w : IVec S2880x768 8) (m k b : IVec S1x768 32) (m2 k2 : BitVec 32)
    (y : S256x768.Idx) : ∃ p ∈ tiles22 X xe w m k b m2 k2, y ∈ p.1.set :=
  View.cover_of_tiledBy (tiles22 X xe w m k b m2 k2) ![256, 256] (by sl_kernel_rfl) y

section
variable {X : FVec Ideal S256x2880 .bf16} {xe : IVec S256x1 32} {w : IVec S2880x768 8} {m k b : IVec S1x768 32} {m2 k2 : BitVec 32}
  {a : Fin 256 → Fin 2880 → BitVec 8}

/-- A block's stored codes. -/
theorem tiles17_canon (hX : ∀ r d, X (ix2 r d) = real8 (a r d)) : View.canon (tiles17 X xe w m k b m2 k2) = codesOf a xe w m k b m2 k2 :=
  funext fun y => View.canon_apply_of_pieces _ _ (tiles17_val hX) y (tiles17_cover X xe w m k b m2 k2 y)

/-- A block's kept codes. -/
theorem tiles22_canon (hX : ∀ r d, X (ix2 r d) = real8 (a r d)) : View.canon (tiles22 X xe w m k b m2 k2) = keptOf a xe w m k b m2 k2 :=
  funext fun y => View.canon_apply_of_pieces _ _ (tiles22_val hX) y (tiles22_cover X xe w m k b m2 k2 y)

end

section
variable {gb : FVec Ideal S256x768 .bf16} {w2 : IVec S768x2880 8} {g : Fin 256 → Fin 768 → BitVec 8}

/-- The first block's accumulator. -/
theorem grown12_canon (hg : ∀ r f, gb (ix2 r f) = real8 (g r f)) : View.canon (grown12 View.canon gb w2) = sumOf (fun _ _ => 0#32) g w2 := by
  rw [grown12_eq]
  funext y
  refine View.canon_append_of_pieces _ _ _ (slabs23_val hg
    (fun r c d h => (ld_at r c r d (Nat.zero_add _).symm h).trans (grown0_zero _))
    (fun r c d h => (ld_at r c r d (Nat.zero_add _).symm h).trans (grown1_zero _ _ _ (by rw [ix2_1]; omega)))
    (fun r c d h => (ld_at r c r d (Nat.zero_add _).symm h).trans (grown2_zero _ _ _ (by rw [ix2_1]; omega)))
    (fun r c d h => (ld_at r c r d (Nat.zero_add _).symm h).trans (grown3_zero _ _ _ (by rw [ix2_1]; omega)))
    (fun r c d h => (ld_at r c r d (Nat.zero_add _).symm h).trans (grown4_zero _ _ _ (by rw [ix2_1]; omega)))
    (fun r c d h => (ld_at r c r d (Nat.zero_add _).symm h).trans (grown5_zero _ _ _ (by rw [ix2_1]; omega)))
    (fun r c d h => (ld_at r c r d (Nat.zero_add _).symm h).trans (grown6_zero _ _ _ (by rw [ix2_1]; omega)))
    (fun r c d h => (ld_at r c r d (Nat.zero_add _).symm h).trans (grown7_zero _ _ _ (by rw [ix2_1]; omega)))
    (fun r c d h => (ld_at r c r d (Nat.zero_add _).symm h).trans (grown8_zero _ _ _ (by rw [ix2_1]; omega)))
    (fun r c d h => (ld_at r c r d (Nat.zero_add _).symm h).trans (grown9_zero _ _ _ (by rw [ix2_1]; omega)))
    (fun r c d h => (ld_at r c r d (Nat.zero_add _).symm h).trans (grown10_zero _ _ _ (by rw [ix2_1]; omega)))
    (fun r c d h => (ld_at r c r d (Nat.zero_add _).symm h).trans (grown11_zero _ _ _ (by rw [ix2_1]; omega)))
    ) y (slabs23_cover _ _ _ _ _ _ _ _ _ _ _ _ _ _ y)

/-- A later block's accumulator, from the array `A` before. -/
theorem slabs23_canon {A : IVec S256x2880 32} (hg : ∀ r f, gb (ix2 r f) = real8 (g r f)) :
    View.canon (slabs23 gb w2
      (View.ld (Val := Elt Ideal) (S := S256x2880) (e' := .i32) A (Rect.unit (s := S256x2880) ![0, 0] S256x256.size inb_S256x2880_S256x256_0_0))
      (View.ld (Val := Elt Ideal) (S := S256x2880) (e' := .i32) A (Rect.unit (s := S256x2880) ![0, 256] S256x256.size inb_S256x2880_S256x256_0_256))
      (View.ld (Val := Elt Ideal) (S := S256x2880) (e' := .i32) A (Rect.unit (s := S256x2880) ![0, 512] S256x256.size inb_S256x2880_S256x256_0_512))
      (View.ld (Val := Elt Ideal) (S := S256x2880) (e' := .i32) A (Rect.unit (s := S256x2880) ![0, 768] S256x256.size inb_S256x2880_S256x256_0_768))
      (View.ld (Val := Elt Ideal) (S := S256x2880) (e' := .i32) A (Rect.unit (s := S256x2880) ![0, 1024] S256x256.size inb_S256x2880_S256x256_0_1024))
      (View.ld (Val := Elt Ideal) (S := S256x2880) (e' := .i32) A (Rect.unit (s := S256x2880) ![0, 1280] S256x256.size inb_S256x2880_S256x256_0_1280))
      (View.ld (Val := Elt Ideal) (S := S256x2880) (e' := .i32) A (Rect.unit (s := S256x2880) ![0, 1536] S256x256.size inb_S256x2880_S256x256_0_1536))
      (View.ld (Val := Elt Ideal) (S := S256x2880) (e' := .i32) A (Rect.unit (s := S256x2880) ![0, 1792] S256x256.size inb_S256x2880_S256x256_0_1792))
      (View.ld (Val := Elt Ideal) (S := S256x2880) (e' := .i32) A (Rect.unit (s := S256x2880) ![0, 2048] S256x256.size inb_S256x2880_S256x256_0_2048))
      (View.ld (Val := Elt Ideal) (S := S256x2880) (e' := .i32) A (Rect.unit (s := S256x2880) ![0, 2304] S256x256.size inb_S256x2880_S256x256_0_2304))
      (View.ld (Val := Elt Ideal) (S := S256x2880) (e' := .i32) A (Rect.unit (s := S256x2880) ![0, 2560] S256x256.size inb_S256x2880_S256x256_0_2560))
      (View.ld (Val := Elt Ideal) (S := S256x2880) (e' := .i32) A (Rect.unit (s := S256x2880) ![0, 2816] ![256, 64] inb_S256x2880_S256x64_0_2816))
      ) = sumOf (fun r c => A (ix2 r c)) g w2 := by
  funext y
  refine View.canon_apply_of_pieces _ _ (slabs23_val hg
    (fun r c d h => ld_at r c r d (Nat.zero_add _).symm h)
    (fun r c d h => ld_at r c r d (Nat.zero_add _).symm h)
    (fun r c d h => ld_at r c r d (Nat.zero_add _).symm h)
    (fun r c d h => ld_at r c r d (Nat.zero_add _).symm h)
    (fun r c d h => ld_at r c r d (Nat.zero_add _).symm h)
    (fun r c d h => ld_at r c r d (Nat.zero_add _).symm h)
    (fun r c d h => ld_at r c r d (Nat.zero_add _).symm h)
    (fun r c d h => ld_at r c r d (Nat.zero_add _).symm h)
    (fun r c d h => ld_at r c r d (Nat.zero_add _).symm h)
    (fun r c d h => ld_at r c r d (Nat.zero_add _).symm h)
    (fun r c d h => ld_at r c r d (Nat.zero_add _).symm h)
    (fun r c d h => ld_at r c r d (Nat.zero_add _).symm h)
    ) y (slabs23_cover _ _ _ _ _ _ _ _ _ _ _ _ _ _ y)

end

/-- The word in a one-word array. -/
theorem scalar_at {M : Memref sig .tc .smem S1 .i32} (h : M.IsWhole) (x : Vec Ideal S1 .i32) {inb} {hp} :
    View.readAt (Elt Ideal) M.view (Rect.unit (s := S1) ![0] S1.size inb).toLoadRect (h.unread x) (Shape.Idx.first hp) = x (ix1 0) := by
  refine (congrFun (View.readAt_eq_ld M.view (h.unread x) (Rect.unit (s := S1) ![0] S1.size inb)) _).trans ?_
  rw [h.read_unread]
  exact congrArg x (funext fun a => Fin.ext (by
    have : ∀ u v : Fin (S1.size a), u.val = v.val := by
      match a with
      | ⟨0, _⟩ => intro u v; have := u.isLt; have := v.isLt; change _ < 1 at *; omega
    exact this _ _))

end Cert.Layer

end
-- ==== Proof.Layer.PointA.lean ====
/-
  The first grid point: the codes are kept as reals, the accumulator is cleared, and the first block is computed and added.
-/
module

public import proofs.«01_k».proof.Proof.Layer.Grow
public import proofs.«01_k».proof.Proof.Gen.KernelIdeal.Frame

@[expose] public section

set_option maxRecDepth 16384

noncomputable section

namespace Cert.Layer

open Idealize.ShloMosaic Idealize.ShloMosaic.TcCoe Cert.KernelIdeal Cert.KernelIdeal.Gen

/-- The store that keeps the input codes as reals. -/
def cast30 (x : IVec S256x2880 8) : List (View.Piece (Elt Ideal) S256x2880 .bf16) :=
  [⟨Rect.unit (s := S256x2880) ![0, 0] S256x2880.size inb_S256x2880_S256x2880_0_0, k0_pay30 (F := Ideal) (View.ld x (Rect.unit (s := S256x2880) ![0, 0] S256x2880.size inb_S256x2880_S256x2880_0_0))⟩]

/-- A kept code. -/
theorem pay30_apply (v : IVec S256x2880 8) (i : Fin 256) (j : Fin 2880) : k0_pay30 (F := Ideal) v (ix2 i j) = real8 (v (ix2 i j)) := by
  unfold k0_pay30
  simp only [pointwise]
  rfl

/-- It leaves each code's real value. -/
theorem cast30_canon (x : IVec S256x2880 8) : View.canon (cast30 x) = fun y => real8 (x y) := by
  funext y
  refine View.canon_apply_of_pieces (fun y => real8 (x y)) (cast30 x) ?_ y (View.cover_of_tiledBy (cast30 x) ![256, 2880] (by sl_kernel_rfl) y)
  intro p hp
  unfold cast30 at hp
  simp only [List.mem_cons, List.not_mem_nil, or_false] at hp
  subst hp
  refine fun x' => piece_at (Val := Elt Ideal) (e := .bf16) (G := fun y => real8 (x y)) (n := 256) (m := 2880) (p := 256) (q := 2880) (inb := inb_S256x2880_S256x2880_0_0) ?_ x'
  intro i j i' j' h1 h2
  exact (pay30_apply _ i j).trans (congrArg real8 (ld_at (Val := Elt Ideal) (e := .i8) i j i' j' h1 h2))

/-! What the body's run stores, read off the run. -/

theorem runA17 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : cond0_0 i) (hc1 : ¬cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15).2.1
    = tiles17 (arg21.view.read (Elt Ideal) (arg21.view.writes (Elt Ideal) arg21.view.junk (cast30 (arg4.view.read (Elt Ideal) (harg4.unread x3))))) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (View.readAt (Elt Ideal) arg1.view (Rect.unit (s := S1) ![0] S1.size inb_S1_S1_0).toLoadRect (harg1.unread x0) (Shape.Idx.first (by decide))) (View.readAt (Elt Ideal) arg2.view (Rect.unit (s := S1) ![0] S1.size inb_S1_S1_0).toLoadRect (harg2.unread x1) (Shape.Idx.first (by decide))) := by
  delta kernelRun0_A
  dsimp only
  rfl
theorem runA21 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : cond0_0 i) (hc1 : ¬cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15).2.2.2.2.1 = cast30 (arg4.view.read (Elt Ideal) (harg4.unread x3)) := by
  delta kernelRun0_A
  dsimp only
  rfl
theorem runA23 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : cond0_0 i) (hc1 : ¬cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15).2.2.2.2.2.1
    = grown12 (fun L => arg23.view.read (Elt Ideal) (arg23.view.writes (Elt Ideal) arg23.view.junk L)) (View.ld (arg22.view.read (Elt Ideal) (arg22.view.writes (Elt Ideal) arg22.view.junk (tiles22 (arg21.view.read (Elt Ideal) (arg21.view.writes (Elt Ideal) arg21.view.junk (cast30 (arg4.view.read (Elt Ideal) (harg4.unread x3))))) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (View.readAt (Elt Ideal) arg1.view (Rect.unit (s := S1) ![0] S1.size inb_S1_S1_0).toLoadRect (harg1.unread x0) (Shape.Idx.first (by decide))) (View.readAt (Elt Ideal) arg2.view (Rect.unit (s := S1) ![0] S1.size inb_S1_S1_0).toLoadRect (harg2.unread x1) (Shape.Idx.first (by decide)))))) (Rect.unit (s := S256x768) ![0, 0] S256x768.size inb_S256x768_S256x768_0_0)) (arg10.view.read (Elt Ideal) (harg10.unread x9)) := by
  delta kernelRun0_A
  dsimp only
  rfl

/-! What the point leaves. -/

/-- The kept input. -/
theorem leftA21 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : cond0_0 i) (hc1 : ¬cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 = fun y => real8 (x3 y) := by
  unfold sout0_A_0
  rw [View.read_writes_junk_eq_canon, runA21, harg4.read_unread, cast30_canon]

/-- The block of codes. -/
theorem leftA17 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : cond0_0 i) (hc1 : ¬cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 = codesOf (fun r d => x3 (ix2 r d)) x4 x5 x6 x7 x8 (x0 (ix1 0)) (x1 (ix1 0)) := by
  unfold out0_A_17
  rw [View.read_writes_junk_eq_canon, runA17, View.read_writes_junk_eq_canon, harg4.read_unread, harg5.read_unread, harg6.read_unread, harg7.read_unread, harg8.read_unread, harg9.read_unread, scalar_at harg1, scalar_at harg2]
  exact tiles17_canon (fun r d => congrFun (cast30_canon x3) _)

/-- The accumulator. -/
theorem leftA23 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : cond0_0 i) (hc1 : ¬cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 = sumOf (fun _ _ => 0#32) (blockCode (fun r d => x3 (ix2 r d)) x4 x5 x6 x7 x8 (x0 (ix1 0)) (x1 (ix1 0))) x9 := by
  have e : (fun L => arg23.view.read (Elt Ideal) (arg23.view.writes (Elt Ideal) arg23.view.junk L)) = View.canon :=
    funext fun L => View.read_writes_junk_eq_canon arg23.view L
  unfold sout0_A_2
  rw [View.read_writes_junk_eq_canon, runA23, e, View.read_writes_junk_eq_canon, View.read_writes_junk_eq_canon, harg4.read_unread, harg10.read_unread, harg5.read_unread, harg6.read_unread, harg7.read_unread, harg8.read_unread, harg9.read_unread, scalar_at harg1, scalar_at harg2]
  exact grown12_canon (fun r f => (ld_at r f r f (Nat.zero_add _).symm (Nat.zero_add _).symm).trans
    (congrFun (tiles22_canon (fun r d => congrFun (cast30_canon x3) _)) _))

end Cert.Layer

end
-- ==== Proof.Layer.PointB.lean ====
/-
  A middle grid point: its block of codes, and the accumulator it leaves.
-/
module

public import proofs.«01_k».proof.Proof.Layer.Grow
public import proofs.«01_k».proof.Proof.Gen.KernelIdeal.Frame

@[expose] public section

set_option maxRecDepth 16384

noncomputable section

namespace Cert.Layer

open Idealize.ShloMosaic Idealize.ShloMosaic.TcCoe Cert.KernelIdeal Cert.KernelIdeal.Gen

/-! What the body's run stores, read off the run. -/

theorem runB17 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : ¬cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2).2.1
    = tiles17 (arg21.view.read (Elt Ideal) (harg21.unread xs0)) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (View.readAt (Elt Ideal) arg1.view (Rect.unit (s := S1) ![0] S1.size inb_S1_S1_0).toLoadRect (harg1.unread x0) (Shape.Idx.first (by decide))) (View.readAt (Elt Ideal) arg2.view (Rect.unit (s := S1) ![0] S1.size inb_S1_S1_0).toLoadRect (harg2.unread x1) (Shape.Idx.first (by decide))) := by
  delta kernelRun0_B
  dsimp only
  rfl
theorem runB23 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : ¬cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2).2.2.2.2.2.1
    = slabs23 (View.ld (arg22.view.read (Elt Ideal) (arg22.view.writes (Elt Ideal) arg22.view.junk (tiles22 (arg21.view.read (Elt Ideal) (harg21.unread xs0)) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (View.readAt (Elt Ideal) arg1.view (Rect.unit (s := S1) ![0] S1.size inb_S1_S1_0).toLoadRect (harg1.unread x0) (Shape.Idx.first (by decide))) (View.readAt (Elt Ideal) arg2.view (Rect.unit (s := S1) ![0] S1.size inb_S1_S1_0).toLoadRect (harg2.unread x1) (Shape.Idx.first (by decide)))))) (Rect.unit (s := S256x768) ![0, 0] S256x768.size inb_S256x768_S256x768_0_0)) (arg10.view.read (Elt Ideal) (harg10.unread x9))
      (View.ld (arg23.view.read (Elt Ideal) (harg23.unread xs2)) (Rect.unit (s := S256x2880) ![0, 0] S256x256.size inb_S256x2880_S256x256_0_0)) (View.ld (arg23.view.read (Elt Ideal) (harg23.unread xs2)) (Rect.unit (s := S256x2880) ![0, 256] S256x256.size inb_S256x2880_S256x256_0_256)) (View.ld (arg23.view.read (Elt Ideal) (harg23.unread xs2)) (Rect.unit (s := S256x2880) ![0, 512] S256x256.size inb_S256x2880_S256x256_0_512)) (View.ld (arg23.view.read (Elt Ideal) (harg23.unread xs2)) (Rect.unit (s := S256x2880) ![0, 768] S256x256.size inb_S256x2880_S256x256_0_768)) (View.ld (arg23.view.read (Elt Ideal) (harg23.unread xs2)) (Rect.unit (s := S256x2880) ![0, 1024] S256x256.size inb_S256x2880_S256x256_0_1024)) (View.ld (arg23.view.read (Elt Ideal) (harg23.unread xs2)) (Rect.unit (s := S256x2880) ![0, 1280] S256x256.size inb_S256x2880_S256x256_0_1280)) (View.ld (arg23.view.read (Elt Ideal) (harg23.unread xs2)) (Rect.unit (s := S256x2880) ![0, 1536] S256x256.size inb_S256x2880_S256x256_0_1536)) (View.ld (arg23.view.read (Elt Ideal) (harg23.unread xs2)) (Rect.unit (s := S256x2880) ![0, 1792] S256x256.size inb_S256x2880_S256x256_0_1792)) (View.ld (arg23.view.read (Elt Ideal) (harg23.unread xs2)) (Rect.unit (s := S256x2880) ![0, 2048] S256x256.size inb_S256x2880_S256x256_0_2048)) (View.ld (arg23.view.read (Elt Ideal) (harg23.unread xs2)) (Rect.unit (s := S256x2880) ![0, 2304] S256x256.size inb_S256x2880_S256x256_0_2304)) (View.ld (arg23.view.read (Elt Ideal) (harg23.unread xs2)) (Rect.unit (s := S256x2880) ![0, 2560] S256x256.size inb_S256x2880_S256x256_0_2560)) (View.ld (arg23.view.read (Elt Ideal) (harg23.unread xs2)) (Rect.unit (s := S256x2880) ![0, 2816] ![256, 64] inb_S256x2880_S256x64_0_2816)) := by
  delta kernelRun0_B
  dsimp only
  rfl

/-! What the point leaves, when the kept input holds the codes `a`. -/

/-- The block of codes. -/
theorem leftB17 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : ¬cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) {a : Fin 256 → Fin 2880 → BitVec 8} (hX : ∀ r d, xs0 (ix2 r d) = real8 (a r d)) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 = codesOf a x4 x5 x6 x7 x8 (x0 (ix1 0)) (x1 (ix1 0)) := by
  unfold out0_B_17
  rw [View.read_writes_junk_eq_canon, runB17, harg21.read_unread, harg5.read_unread, harg6.read_unread, harg7.read_unread, harg8.read_unread, harg9.read_unread, scalar_at harg1, scalar_at harg2]
  exact tiles17_canon hX

/-- The accumulator. -/
theorem leftB23 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : ¬cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) {a : Fin 256 → Fin 2880 → BitVec 8} (hX : ∀ r d, xs0 (ix2 r d) = real8 (a r d)) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 = sumOf (fun r d => xs2 (ix2 r d)) (blockCode a x4 x5 x6 x7 x8 (x0 (ix1 0)) (x1 (ix1 0))) x9 := by
  unfold sout0_B_2
  rw [View.read_writes_junk_eq_canon, runB23, harg21.read_unread, harg23.read_unread, View.read_writes_junk_eq_canon, harg10.read_unread, harg5.read_unread, harg6.read_unread, harg7.read_unread, harg8.read_unread, harg9.read_unread, scalar_at harg1, scalar_at harg2]
  exact slabs23_canon (fun r f => (ld_at r f r f (Nat.zero_add _).symm (Nat.zero_add _).symm).trans
    (congrFun (tiles22_canon hX) _))

end Cert.Layer

end
-- ==== Proof.Layer.Rows.lean ====
/-
  The kernel's row pass at an index: a 32-row chunk's residual sum, its layer normalisation by integers, its output code.
-/
module

public import proofs.«01_k».proof.Proof.Layer.Spec
public import proofs.«01_k».proof.Proof.Gen.KernelIdeal.Skeleton

@[expose] public section

noncomputable section

namespace Cert.Layer

open Idealize.ShloMosaic Cert.KernelIdeal Cert.KernelIdeal.Gen

section
variable (a : IVec S32x2880 32) (m k b : IVec S1x2880 32) (x : IVec S32x2880 8) (xe : IVec S32x1 32) (ze : BitVec 32)
  (r : Fin 32) (c : Fin 2880)

/-- The residual sum. -/
theorem zed_apply :
    k0_pay6 (F := Ideal) (k0_pay3 (F := Ideal) a m k) (k0_pay4 (F := Ideal) x) (k0_pay5 (F := Ideal) xe ze) b (ix2 r c)
      = zed (a (ix2 r c)) (m (ix2 0 c)) (k (ix2 0 c)) (x (ix2 r c)) (xe (ix2 r 0)) ze (b (ix2 0 c)) := by
  unfold k0_pay6 k0_pay3 k0_pay4 k0_pay5
  simp only [pointwise]
  rfl

variable (p q : IVec S32x2880 32) (s : IVec S32x1 32)

/-- The row less its floor mean. -/
theorem cent_apply :
    k0_pay7 (F := Ideal) p q s b (ix2 r c) = cent (fun d => k0_pay6 (F := Ideal) p q s b (ix2 r d)) c := by
  unfold k0_pay7
  simp only [pointwise]
  rfl

/-- The shift of the row. -/
theorem shift_apply :
    k0_pay9 (k0_pay8 (F := Ideal) p q s b) (ix2 r 0) = shiftOf (fun d => k0_pay6 (F := Ideal) p q s b (ix2 r d)) := by
  unfold k0_pay9 k0_pay8
  simp only [pointwise, cent_apply]
  rfl

/-- The sum of squares of the shifted row. -/
theorem var_apply :
    k0_pay10 (k0_pay7 (F := Ideal) p q s b) (k0_pay8 (F := Ideal) p q s b) (ix2 r 0)
      = varOf (fun d => k0_pay6 (F := Ideal) p q s b (ix2 r d)) := by
  unfold k0_pay10
  simp only [pointwise, cent_apply]
  unfold varOf rowSum
  refine Finset.fold_congr fun k _ => ?_
  exact congrArg (fun z => IntOp.muli (IntOp.shrsi .vector (cent _ k) z) (IntOp.shrsi .vector (cent _ k) z)) (shift_apply b r p q s)
end

section
variable (y : IVec S32x2880 32) (e : IVec S32x1 32) (r : Fin 32)

/-- The first two steps of the square root, from its starting power of two. -/
theorem steps1 :
    k0_pay15 (k0_pay10 y e) (k0_pay11 y e) (k0_pay12 y e) (k0_pay13 y e) (k0_pay14 y e) (ix2 r 0)
      = newton (k0_pay10 y e (ix2 r 0)) (newton (k0_pay10 y e (ix2 r 0)) (start (k0_pay10 y e (ix2 r 0)))) := by
  unfold k0_pay15 k0_pay12 k0_pay13 k0_pay14 k0_pay12 k0_pay11
  simp only [pointwise]
  rfl

variable (n t1 t2 : IVec S32x1 32) (d : IVec S32x1 1) (u w : IVec S32x1 32)

/-- The next two. -/
theorem steps2 :
    k0_pay18 n (k0_pay15 n u t1 d w) (k0_pay16 n u t1 d w) (k0_pay17 n u t1 d w) (ix2 r 0)
      = newton (n (ix2 r 0)) (newton (n (ix2 r 0)) (k0_pay15 n u t1 d w (ix2 r 0))) := by
  unfold k0_pay18 k0_pay16 k0_pay17
  simp only [pointwise]
  rfl

variable (sh : IVec S32x1 32)

/-- The last two, and the deviation they give, at the row's scale. -/
theorem steps3 :
    k0_pay22 sh n (k0_pay18 n u t1 d) (k0_pay19 n u t1 d) (k0_pay20 n) k0_pay21 (ix2 r 0)
      = IntOp.shli .vector (newton (n (ix2 r 0)) (newton (n (ix2 r 0)) (k0_pay18 n u t1 d (ix2 r 0)))) (sh (ix2 r 0)) := by
  unfold k0_pay22 k0_pay19 k0_pay20 k0_pay21
  simp only [pointwise]
  rfl

/-- The normalised row. -/
theorem unit_apply (c : Fin 2880) :
    k0_pay24 y (k0_pay22 sh n u t1 w t2) 1073741824#32 (k0_pay23 sh n u t1 w t2) (ix2 r c)
      = IntOp.muli (y (ix2 r c)) (floorDiv 1073741824#32 (k0_pay22 sh n u t1 w t2 (ix2 r 0))) := by
  unfold k0_pay24 k0_pay23
  simp only [pointwise]
  rfl

/-- The output code, from the normalised row. -/
theorem out_apply (m k b : IVec S1x2880 32) (v : BitVec 32) (c : Fin 2880) :
    k0_pay2 (F := Ideal) (k0_pay26 (F := Ideal) k) (k0_pay27 (F := Ideal) k) (k0_pay28 (F := Ideal) y n v u m k) (k0_pay29 (F := Ideal) y n v u m k) b (ix2 r c)
      = (clamp 4294967169#32 127#32 (IntOp.addi (dyadic (k0_pay24 y n v u (ix2 r c)) (m (ix2 0 c)) (k (ix2 0 c))) (b (ix2 0 c)))).setWidth 8 := by
  unfold k0_pay2 k0_pay28 k0_pay29 k0_pay27 k0_pay26 k0_pay25
  simp only [pointwise]
  rfl
end

/-! The chunk's three stored values. -/

section
variable (a : IVec S32x2880 32) (m k b : IVec S1x2880 32) (x : IVec S32x2880 8) (xe : IVec S32x1 32) (ze : BitVec 32)
  (m5 k5 b5 : IVec S1x2880 32) (r : Fin 32) (c : Fin 2880)

/-- The residual sums. -/
def chunkZ : IVec S32x2880 32 :=
  k0_pay6 (F := Ideal) (k0_pay3 (F := Ideal) a m k) (k0_pay4 (F := Ideal) x) (k0_pay5 (F := Ideal) xe ze) b

/-- The rows less their means, and the bits of their largest magnitudes. -/
def chunkY : IVec S32x2880 32 :=
  k0_pay7 (F := Ideal) (k0_pay3 (F := Ideal) a m k) (k0_pay4 (F := Ideal) x) (k0_pay5 (F := Ideal) xe ze) b
def chunkE : IVec S32x1 32 :=
  k0_pay8 (F := Ideal) (k0_pay3 (F := Ideal) a m k) (k0_pay4 (F := Ideal) x) (k0_pay5 (F := Ideal) xe ze) b

/-- The shifts. -/
def chunkS : IVec S32x1 32 := k0_pay9 (chunkE a m k b x xe ze)

/-- The deviations, over the rows less their means. -/
def rootA (y : IVec S32x2880 32) (e : IVec S32x1 32) : IVec S32x1 32 :=
  k0_pay15 (k0_pay10 y e) (k0_pay11 y e) (k0_pay12 y e) (k0_pay13 y e) (k0_pay14 y e)
def rootB (y : IVec S32x2880 32) (e : IVec S32x1 32) : IVec S32x1 32 :=
  k0_pay18 (k0_pay10 y e) (rootA y e)
    (k0_pay16 (k0_pay10 y e) (k0_pay11 y e) (k0_pay12 y e) (k0_pay13 y e) (k0_pay14 y e))
    (k0_pay17 (k0_pay10 y e) (k0_pay11 y e) (k0_pay12 y e) (k0_pay13 y e) (k0_pay14 y e))
def quotB (y : IVec S32x2880 32) (e : IVec S32x1 32) : IVec S32x1 32 :=
  k0_pay19 (k0_pay10 y e) (rootA y e)
    (k0_pay16 (k0_pay10 y e) (k0_pay11 y e) (k0_pay12 y e) (k0_pay13 y e) (k0_pay14 y e))
    (k0_pay17 (k0_pay10 y e) (k0_pay11 y e) (k0_pay12 y e) (k0_pay13 y e) (k0_pay14 y e))
def dev (y : IVec S32x2880 32) (e : IVec S32x1 32) : IVec S32x1 32 :=
  k0_pay22 (k0_pay9 e) (k0_pay10 y e) (rootB y e) (quotB y e) (k0_pay20 (k0_pay10 y e)) k0_pay21
def quotD (y : IVec S32x2880 32) (e : IVec S32x1 32) : IVec S32x1 32 :=
  k0_pay23 (k0_pay9 e) (k0_pay10 y e) (rootB y e) (quotB y e) (k0_pay20 (k0_pay10 y e)) k0_pay21

/-- The output codes, over the rows less their means. -/
def codes (y : IVec S32x2880 32) (e : IVec S32x1 32) (m5 k5 b5 : IVec S1x2880 32) : IVec S32x2880 8 :=
  k0_pay2 (F := Ideal) (k0_pay26 (F := Ideal) k5) (k0_pay27 (F := Ideal) k5)
    (k0_pay28 (F := Ideal) y (dev y e) 1073741824#32 (quotD y e) m5 k5) (k0_pay29 (F := Ideal) y (dev y e) 1073741824#32 (quotD y e) m5 k5) b5

/-- The output codes. -/
def chunkO : IVec S32x2880 8 := codes (chunkY a m k b x xe ze) (chunkE a m k b x xe ze) m5 k5 b5

theorem chunkZ_apply :
    chunkZ a m k b x xe ze (ix2 r c) = zed (a (ix2 r c)) (m (ix2 0 c)) (k (ix2 0 c)) (x (ix2 r c)) (xe (ix2 r 0)) ze (b (ix2 0 c)) :=
  zed_apply a m k b x xe ze r c

theorem chunkS_apply : chunkS a m k b x xe ze (ix2 r 0) = shiftOf (fun d => chunkZ a m k b x xe ze (ix2 r d)) :=
  shift_apply b r _ _ _

/-- The deviation of a row, at its scale. -/
theorem dev_apply (y : IVec S32x2880 32) (e : IVec S32x1 32) :
    dev y e (ix2 r 0) = IntOp.shli .vector (isqrt (k0_pay10 y e (ix2 r 0))) (k0_pay9 e (ix2 r 0)) := by
  unfold dev rootB quotB
  rw [steps3]
  unfold rootA
  rw [steps2, steps1]
  rfl

theorem codes_apply (y : IVec S32x2880 32) (e : IVec S32x1 32) :
    codes y e m5 k5 b5 (ix2 r c)
      = (clamp 4294967169#32 127#32 (IntOp.addi (dyadic (IntOp.muli (y (ix2 r c)) (floorDiv 1073741824#32
          (IntOp.shli .vector (isqrt (k0_pay10 y e (ix2 r 0))) (k0_pay9 e (ix2 r 0))))) (m5 (ix2 0 c)) (k5 (ix2 0 c))) (b5 (ix2 0 c)))).setWidth 8 := by
  have h := dev_apply r y e
  unfold codes
  rw [out_apply]
  unfold dev at h ⊢
  unfold quotD
  rw [unit_apply, h]

theorem chunkO_apply :
    chunkO a m k b x xe ze m5 k5 b5 (ix2 r c)
      = outCode (fun d => chunkZ a m k b x xe ze (ix2 r d)) c (m5 (ix2 0 c)) (k5 (ix2 0 c)) (b5 (ix2 0 c)) := by
  have h1 : chunkY a m k b x xe ze (ix2 r c) = cent (fun d => chunkZ a m k b x xe ze (ix2 r d)) c := cent_apply b r c _ _ _
  have h2 : k0_pay10 (chunkY a m k b x xe ze) (chunkE a m k b x xe ze) (ix2 r 0) = varOf (fun d => chunkZ a m k b x xe ze (ix2 r d)) :=
    var_apply b r _ _ _
  have h3 : k0_pay9 (chunkE a m k b x xe ze) (ix2 r 0) = shiftOf (fun d => chunkZ a m k b x xe ze (ix2 r d)) := shift_apply b r _ _ _
  unfold chunkO
  rw [codes_apply, h1, h2, h3]
  rfl
end

end Cert.Layer

end
-- ==== Proof.Layer.Whole.lean ====
/-
  The layer over whole arrays: the hidden codes, the second product over them, and the three results computed from it.
-/
module

public import proofs.«01_k».proof.Proof.Layer.Dot

@[expose] public section

noncomputable section

namespace Cert.Layer

open Idealize.ShloMosaic

/-- The hidden codes (the second result), from the input codes and exponents, the first weights and the rescalings. -/
def gArr (x : IVec (⟨2, ![256, 2880]⟩ : Shape) 8) (xe : IVec (⟨2, ![256, 1]⟩ : Shape) 32) (w1 : IVec (⟨2, ![2880, 7680]⟩ : Shape) 8)
    (m1 k1 b1 : IVec (⟨2, ![1, 7680]⟩ : Shape) 32) (m2 k2 : BitVec 32) : IVec (⟨2, ![256, 7680]⟩ : Shape) 8 := fun y =>
  hid (fun r d => x (ix2 r d)) (fun r => xe (ix2 r 0)) (fun d f => w1 (ix2 d f)) (fun f => m1 (ix2 0 f)) (fun f => k1 (ix2 0 f))
    (fun f => b1 (ix2 0 f)) m2 k2 (y 0) (y 1)

/-- The second product. -/
def accArr (g : IVec (⟨2, ![256, 7680]⟩ : Shape) 8) (w2 : IVec (⟨2, ![7680, 2880]⟩ : Shape) 8) : IVec (⟨2, ![256, 2880]⟩ : Shape) 32 :=
  fun y => dot (fun f => g (ix2 (y 0) f)) (fun f => w2 (ix2 f (y 1)))

section
variable (A : IVec (⟨2, ![256, 2880]⟩ : Shape) 32) (m3 k3 b2 : IVec (⟨2, ![1, 2880]⟩ : Shape) 32) (x : IVec (⟨2, ![256, 2880]⟩ : Shape) 8)
  (xe : IVec (⟨2, ![256, 1]⟩ : Shape) 32) (ze : BitVec 32) (m5 k5 b5 : IVec (⟨2, ![1, 2880]⟩ : Shape) 32)

/-- The second layer's sum with the input added back, from the accumulator `A`. -/
def zedAt (r : Fin 256) (c : Fin 2880) : BitVec 32 :=
  zed (A (ix2 r c)) (m3 (ix2 0 c)) (k3 (ix2 0 c)) (x (ix2 r c)) (xe (ix2 r 0)) ze (b2 (ix2 0 c))

/-- The third result. -/
def zArr : IVec (⟨2, ![256, 2880]⟩ : Shape) 32 := fun y => zedAt A m3 k3 b2 x xe ze (y 0) (y 1)

/-- The fourth result. -/
def sArr : IVec (⟨2, ![256, 1]⟩ : Shape) 32 := fun y => shiftOf (zedAt A m3 k3 b2 x xe ze (y 0))

/-- The first result. -/
def oArr : IVec (⟨2, ![256, 2880]⟩ : Shape) 8 := fun y =>
  outCode (zedAt A m3 k3 b2 x xe ze (y 0)) (y 1) (m5 (ix2 0 (y 1))) (k5 (ix2 0 (y 1))) (b5 (ix2 0 (y 1)))

end

end Cert.Layer

end
-- ==== Proof.Layer.Loop.lean ====
/-
  The last point's row loop: eight trips of 32 rows. Each trip's stores are the chunk functions of `Layer.Rows` over the
  trip's rows; over all trips they are the whole arrays `zArr` (third result), `sArr` (fourth) and `oArr` (first).
-/
module

public import proofs.«01_k».proof.Proof.Layer.Rows
public import proofs.«01_k».proof.Proof.Layer.Whole
public import proofs.«01_k».proof.Proof.Layer.Cut
public import proofs.«01_k».proof.Proof.Gen.KernelIdeal.Loops

@[expose] public section

set_option maxRecDepth 16384

noncomputable section

namespace Cert.Layer

open Idealize.ShloMosaic Idealize.ShloMosaic.TcCoe Cert.KernelIdeal Cert.KernelIdeal.Gen

section
variable (A : IVec S256x2880 32) (m3 k3 b2 : IVec S1x2880 32) (x : IVec S256x2880 8) (xe : IVec S256x1 32) (ze : BitVec 32)
  (m5 k5 b5 : IVec S1x2880 32)

variable {off off1 : Fin 2 → ℕ} {o : ℕ}
  {inb : ∀ a, off a + (![32, 2880] : Fin 2 → ℕ) a ≤ S256x2880.size a} {inb1 : ∀ a, off1 a + (![32, 1] : Fin 2 → ℕ) a ≤ S256x1.size a}
  {inbr : ∀ a, (![0, 0] : Fin 2 → ℕ) a + (![1, 2880] : Fin 2 → ℕ) a ≤ S1x2880.size a} (i : Fin 32) (i' : Fin 256)

/-- A chunk's sum, at the rows it was cut from. -/
theorem cutZ (h2 : off = ![o, 0]) (h1 : off1 = ![o, 0]) (hi : (i' : ℕ) = o + i) (j : Fin 2880) :
    chunkZ (View.ld (Val := Elt Ideal) (S := S256x2880) (e' := .i32) A (Rect.unit (s := S256x2880) off ![32, 2880] inb)) (View.ld (Val := Elt Ideal) (S := S1x2880) (e' := .i32) m3 (Rect.unit (s := S1x2880) ![0, 0] ![1, 2880] inbr)) (View.ld (Val := Elt Ideal) (S := S1x2880) (e' := .i32) k3 (Rect.unit (s := S1x2880) ![0, 0] ![1, 2880] inbr))
      (View.ld (Val := Elt Ideal) (S := S1x2880) (e' := .i32) b2 (Rect.unit (s := S1x2880) ![0, 0] ![1, 2880] inbr)) (View.ld (Val := Elt Ideal) (S := S256x2880) (e' := .i8) x (Rect.unit (s := S256x2880) off ![32, 2880] inb)) (View.ld (Val := Elt Ideal) (S := S256x1) (e' := .i32) xe (Rect.unit (s := S256x1) off1 ![32, 1] inb1)) ze (ix2 i j)
      = zedAt A m3 k3 b2 x xe ze i' j := by
  subst h2 h1
  refine (chunkZ_apply _ _ _ _ _ _ _ i j).trans ?_
  rw [ld_at (Val := Elt Ideal) (e := .i32) (X := A) i j i' j hi (Nat.zero_add _).symm, ld_at (Val := Elt Ideal) (e := .i32) (X := m3) 0 j 0 j rfl (Nat.zero_add _).symm,
    ld_at (Val := Elt Ideal) (e := .i32) (X := k3) 0 j 0 j rfl (Nat.zero_add _).symm, ld_at (Val := Elt Ideal) (e := .i32) (X := b2) 0 j 0 j rfl (Nat.zero_add _).symm,
    ld_at (Val := Elt Ideal) (e := .i8) (X := x) i j i' j hi (Nat.zero_add _).symm, ld_at (Val := Elt Ideal) (e := .i32) (X := xe) i 0 i' 0 hi rfl]
  rfl

/-- Its rows' shifts. -/
theorem cutS (h2 : off = ![o, 0]) (h1 : off1 = ![o, 0]) (hi : (i' : ℕ) = o + i) :
    chunkS (View.ld (Val := Elt Ideal) (S := S256x2880) (e' := .i32) A (Rect.unit (s := S256x2880) off ![32, 2880] inb)) (View.ld (Val := Elt Ideal) (S := S1x2880) (e' := .i32) m3 (Rect.unit (s := S1x2880) ![0, 0] ![1, 2880] inbr)) (View.ld (Val := Elt Ideal) (S := S1x2880) (e' := .i32) k3 (Rect.unit (s := S1x2880) ![0, 0] ![1, 2880] inbr))
      (View.ld (Val := Elt Ideal) (S := S1x2880) (e' := .i32) b2 (Rect.unit (s := S1x2880) ![0, 0] ![1, 2880] inbr)) (View.ld (Val := Elt Ideal) (S := S256x2880) (e' := .i8) x (Rect.unit (s := S256x2880) off ![32, 2880] inb)) (View.ld (Val := Elt Ideal) (S := S256x1) (e' := .i32) xe (Rect.unit (s := S256x1) off1 ![32, 1] inb1)) ze (ix2 i 0)
      = shiftOf (zedAt A m3 k3 b2 x xe ze i') :=
  (chunkS_apply _ _ _ _ _ _ _ i).trans (congrArg shiftOf (funext fun j => cutZ A m3 k3 b2 x xe ze i i' h2 h1 hi j))

/-- Its output codes. -/
theorem cutO (h2 : off = ![o, 0]) (h1 : off1 = ![o, 0]) (hi : (i' : ℕ) = o + i) (j : Fin 2880) :
    chunkO (View.ld (Val := Elt Ideal) (S := S256x2880) (e' := .i32) A (Rect.unit (s := S256x2880) off ![32, 2880] inb)) (View.ld (Val := Elt Ideal) (S := S1x2880) (e' := .i32) m3 (Rect.unit (s := S1x2880) ![0, 0] ![1, 2880] inbr)) (View.ld (Val := Elt Ideal) (S := S1x2880) (e' := .i32) k3 (Rect.unit (s := S1x2880) ![0, 0] ![1, 2880] inbr))
      (View.ld (Val := Elt Ideal) (S := S1x2880) (e' := .i32) b2 (Rect.unit (s := S1x2880) ![0, 0] ![1, 2880] inbr)) (View.ld (Val := Elt Ideal) (S := S256x2880) (e' := .i8) x (Rect.unit (s := S256x2880) off ![32, 2880] inb)) (View.ld (Val := Elt Ideal) (S := S256x1) (e' := .i32) xe (Rect.unit (s := S256x1) off1 ![32, 1] inb1)) ze
      (View.ld (Val := Elt Ideal) (S := S1x2880) (e' := .i32) m5 (Rect.unit (s := S1x2880) ![0, 0] ![1, 2880] inbr)) (View.ld (Val := Elt Ideal) (S := S1x2880) (e' := .i32) k5 (Rect.unit (s := S1x2880) ![0, 0] ![1, 2880] inbr)) (View.ld (Val := Elt Ideal) (S := S1x2880) (e' := .i32) b5 (Rect.unit (s := S1x2880) ![0, 0] ![1, 2880] inbr)) (ix2 i j)
      = outCode (zedAt A m3 k3 b2 x xe ze i') j (m5 (ix2 0 j)) (k5 (ix2 0 j)) (b5 (ix2 0 j)) := by
  refine (chunkO_apply _ _ _ _ _ _ _ _ _ _ i j).trans ?_
  rw [ld_at (Val := Elt Ideal) (e := .i32) (X := m5) 0 j 0 j rfl (Nat.zero_add _).symm, ld_at (Val := Elt Ideal) (e := .i32) (X := k5) 0 j 0 j rfl (Nat.zero_add _).symm,
    ld_at (Val := Elt Ideal) (e := .i32) (X := b5) 0 j 0 j rfl (Nat.zero_add _).symm]
  exact congrArg (fun z => outCode z j _ _ _) (funext fun j => cutZ A m3 k3 b2 x xe ze i i' h2 h1 hi j)

/-- So a chunk's shifts are cut from the fourth result. -/
theorem pieceS (h2 : off = ![o, 0]) (h1 : off1 = ![o, 0]) (y : S32x1.Idx) :
    chunkS (View.ld (Val := Elt Ideal) (S := S256x2880) (e' := .i32) A (Rect.unit (s := S256x2880) off ![32, 2880] inb)) (View.ld (Val := Elt Ideal) (S := S1x2880) (e' := .i32) m3 (Rect.unit (s := S1x2880) ![0, 0] ![1, 2880] inbr)) (View.ld (Val := Elt Ideal) (S := S1x2880) (e' := .i32) k3 (Rect.unit (s := S1x2880) ![0, 0] ![1, 2880] inbr))
      (View.ld (Val := Elt Ideal) (S := S1x2880) (e' := .i32) b2 (Rect.unit (s := S1x2880) ![0, 0] ![1, 2880] inbr)) (View.ld (Val := Elt Ideal) (S := S256x2880) (e' := .i8) x (Rect.unit (s := S256x2880) off ![32, 2880] inb)) (View.ld (Val := Elt Ideal) (S := S256x1) (e' := .i32) xe (Rect.unit (s := S256x1) off1 ![32, 1] inb1)) ze y
      = sArr A m3 k3 b2 x xe ze ((Rect.unit (s := S256x1) off1 ![32, 1] inb1).emb y) := by
  refine piece_off (Val := Elt Ideal) (e := .i32) (n := 256) (m := 1) (p := 32) (q := 1) (G := sArr A m3 k3 b2 x xe ze) h1 ?_ y
  intro p q i' j' e1 e2
  have hq : q = 0 := Subsingleton.elim _ _
  rw [hq]
  exact cutS A m3 k3 b2 x xe ze p i' h2 h1 e1

end

/-- A trip's first row. -/
theorem off2_eq (k : Fin k0_t1_loop.trips) : k0_off2 k = ![32 * k.val, 0] := by
  have h : ∀ k : Fin k0_t1_loop.trips, k0_off2 k 0 = 32 * k.val ∧ k0_off2 k 1 = 0 := by decide +kernel
  funext a
  match a with
  | ⟨0, _⟩ => exact (h k).1
  | ⟨1, _⟩ => exact (h k).2
theorem off1_eq (k : Fin k0_t1_loop.trips) : k0_off1 k = ![32 * k.val, 0] := by
  have h : ∀ k : Fin k0_t1_loop.trips, k0_off1 k 0 = 32 * k.val ∧ k0_off1 k 1 = 0 := by decide +kernel
  funext a
  match a with
  | ⟨0, _⟩ => exact (h k).1
  | ⟨1, _⟩ => exact (h k).2

/-! One trip's stores, read off the trip. -/

theorem trip17 (𝒱 : Variants) (c : Dev nD) (bd : Option 𝒱.V) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (k0_h2 : k0_cond2 i = 1#1) (X_arg3 : BufTy.Contents (Elt Ideal) arg3.view.ty) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (X_arg23 : BufTy.Contents (Elt Ideal) arg23.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 X_arg3 X_arg4 X_arg5 X_arg11 X_arg12 X_arg13 X_arg14 X_arg15 X_arg16 X_arg23 k).1
      = [⟨Rect.unit (s := S256x2880) (k0_off2 k) S32x2880.size (k0_off2_inb i k k0_h2), chunkO (View.ld (arg23.view.read (Elt Ideal) X_arg23) (Rect.unit (s := S256x2880) (k0_off2 k) S32x2880.size (k0_off2_inb i k k0_h2))) (View.ld (arg11.view.read (Elt Ideal) X_arg11) (Rect.unit (s := S1x2880) ![0, 0] S1x2880.size inb_S1x2880_S1x2880_0_0)) (View.ld (arg12.view.read (Elt Ideal) X_arg12) (Rect.unit (s := S1x2880) ![0, 0] S1x2880.size inb_S1x2880_S1x2880_0_0)) (View.ld (arg13.view.read (Elt Ideal) X_arg13) (Rect.unit (s := S1x2880) ![0, 0] S1x2880.size inb_S1x2880_S1x2880_0_0))
      (View.ld (arg4.view.read (Elt Ideal) X_arg4) (Rect.unit (s := S256x2880) (k0_off2 k) S32x2880.size (k0_off2_inb i k k0_h2))) (View.ld (arg5.view.read (Elt Ideal) X_arg5) (Rect.unit (s := S256x1) (k0_off1 k) S32x1.size (k0_off1_inb i k k0_h2))) (View.readAt (Elt Ideal) arg3.view (Rect.unit (s := S1) ![0] S1.size inb_S1_S1_0).toLoadRect X_arg3 (Shape.Idx.first (by decide)))
      (View.ld (arg14.view.read (Elt Ideal) X_arg14) (Rect.unit (s := S1x2880) ![0, 0] S1x2880.size inb_S1x2880_S1x2880_0_0)) (View.ld (arg15.view.read (Elt Ideal) X_arg15) (Rect.unit (s := S1x2880) ![0, 0] S1x2880.size inb_S1x2880_S1x2880_0_0)) (View.ld (arg16.view.read (Elt Ideal) X_arg16) (Rect.unit (s := S1x2880) ![0, 0] S1x2880.size inb_S1x2880_S1x2880_0_0))⟩] := by
  delta trip_k0_t1
  dsimp only
  rfl

theorem trip18 (𝒱 : Variants) (c : Dev nD) (bd : Option 𝒱.V) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (k0_h2 : k0_cond2 i = 1#1) (X_arg3 : BufTy.Contents (Elt Ideal) arg3.view.ty) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (X_arg23 : BufTy.Contents (Elt Ideal) arg23.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 X_arg3 X_arg4 X_arg5 X_arg11 X_arg12 X_arg13 X_arg14 X_arg15 X_arg16 X_arg23 k).2.1
      = [⟨Rect.unit (s := S256x2880) (k0_off2 k) S32x2880.size (k0_off2_inb i k k0_h2), chunkZ (View.ld (arg23.view.read (Elt Ideal) X_arg23) (Rect.unit (s := S256x2880) (k0_off2 k) S32x2880.size (k0_off2_inb i k k0_h2))) (View.ld (arg11.view.read (Elt Ideal) X_arg11) (Rect.unit (s := S1x2880) ![0, 0] S1x2880.size inb_S1x2880_S1x2880_0_0)) (View.ld (arg12.view.read (Elt Ideal) X_arg12) (Rect.unit (s := S1x2880) ![0, 0] S1x2880.size inb_S1x2880_S1x2880_0_0)) (View.ld (arg13.view.read (Elt Ideal) X_arg13) (Rect.unit (s := S1x2880) ![0, 0] S1x2880.size inb_S1x2880_S1x2880_0_0))
      (View.ld (arg4.view.read (Elt Ideal) X_arg4) (Rect.unit (s := S256x2880) (k0_off2 k) S32x2880.size (k0_off2_inb i k k0_h2))) (View.ld (arg5.view.read (Elt Ideal) X_arg5) (Rect.unit (s := S256x1) (k0_off1 k) S32x1.size (k0_off1_inb i k k0_h2))) (View.readAt (Elt Ideal) arg3.view (Rect.unit (s := S1) ![0] S1.size inb_S1_S1_0).toLoadRect X_arg3 (Shape.Idx.first (by decide)))⟩] := by
  delta trip_k0_t1
  dsimp only
  rfl

theorem trip19 (𝒱 : Variants) (c : Dev nD) (bd : Option 𝒱.V) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (k0_h2 : k0_cond2 i = 1#1) (X_arg3 : BufTy.Contents (Elt Ideal) arg3.view.ty) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (X_arg23 : BufTy.Contents (Elt Ideal) arg23.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 X_arg3 X_arg4 X_arg5 X_arg11 X_arg12 X_arg13 X_arg14 X_arg15 X_arg16 X_arg23 k).2.2.1
      = [⟨Rect.unit (s := S256x1) (k0_off1 k) S32x1.size (k0_off1_inb i k k0_h2), chunkS (View.ld (arg23.view.read (Elt Ideal) X_arg23) (Rect.unit (s := S256x2880) (k0_off2 k) S32x2880.size (k0_off2_inb i k k0_h2))) (View.ld (arg11.view.read (Elt Ideal) X_arg11) (Rect.unit (s := S1x2880) ![0, 0] S1x2880.size inb_S1x2880_S1x2880_0_0)) (View.ld (arg12.view.read (Elt Ideal) X_arg12) (Rect.unit (s := S1x2880) ![0, 0] S1x2880.size inb_S1x2880_S1x2880_0_0)) (View.ld (arg13.view.read (Elt Ideal) X_arg13) (Rect.unit (s := S1x2880) ![0, 0] S1x2880.size inb_S1x2880_S1x2880_0_0))
      (View.ld (arg4.view.read (Elt Ideal) X_arg4) (Rect.unit (s := S256x2880) (k0_off2 k) S32x2880.size (k0_off2_inb i k k0_h2))) (View.ld (arg5.view.read (Elt Ideal) X_arg5) (Rect.unit (s := S256x1) (k0_off1 k) S32x1.size (k0_off1_inb i k k0_h2))) (View.readAt (Elt Ideal) arg3.view (Rect.unit (s := S1) ![0] S1.size inb_S1_S1_0).toLoadRect X_arg3 (Shape.Idx.first (by decide)))⟩] := by
  delta trip_k0_t1
  dsimp only
  rfl

/-! All trips' stores are cut from one array each. -/

theorem loop17 (𝒱 : Variants) (c : Dev nD) (bd : Option 𝒱.V) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (k0_h2 : k0_cond2 i = 1#1) (X_arg3 : BufTy.Contents (Elt Ideal) arg3.view.ty) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (X_arg23 : BufTy.Contents (Elt Ideal) arg23.view.ty) (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 X_arg3 X_arg4 X_arg5 X_arg11 X_arg12 X_arg13 X_arg14 X_arg15 X_arg16 X_arg23 n).1, ∀ y,
      p.2 y = oArr (arg23.view.read (Elt Ideal) X_arg23) (arg11.view.read (Elt Ideal) X_arg11) (arg12.view.read (Elt Ideal) X_arg12) (arg13.view.read (Elt Ideal) X_arg13) (arg4.view.read (Elt Ideal) X_arg4) (arg5.view.read (Elt Ideal) X_arg5) (View.readAt (Elt Ideal) arg3.view (Rect.unit (s := S1) ![0] S1.size inb_S1_S1_0).toLoadRect X_arg3 (Shape.Idx.first (by decide))) (arg14.view.read (Elt Ideal) X_arg14) (arg15.view.read (Elt Ideal) X_arg15) (arg16.view.read (Elt Ideal) X_arg16) (p.1.emb y) := by
  induction n with
  | zero =>
    intro p hp
    rw [pb_k0_t1.eq_1] at hp
    exact absurd hp List.not_mem_nil
  | succ n ih =>
    intro p hp
    rw [show n + 1 = (⟨n, hn⟩ : Fin k0_t1_loop.trips).val + 1 from rfl, pb_k0_t1_succ] at hp
    rcases List.mem_append.1 hp with hp | hp
    swap
    · exact ih (by omega) p hp
    unfold tripL_k0_t1 at hp
    dsimp only at hp
    rw [trip17] at hp
    obtain rfl := List.mem_singleton.1 hp
    clear hp ih
    refine fun y => piece_off (n := 256) (m := 2880) (p := 32) (q := 2880) (o1 := 32 * n) (o2 := 0) (off2_eq ⟨n, hn⟩) (inb := k0_off2_inb i ⟨n, hn⟩ k0_h2) ?_ y
    intro p q i' j' e1 e2
    obtain rfl : q = j' := Fin.ext (e2.trans (Nat.zero_add _)).symm
    exact cutO _ _ _ _ _ _ _ _ _ _ p i' (off2_eq _) (off1_eq _) e1 q

theorem loop18 (𝒱 : Variants) (c : Dev nD) (bd : Option 𝒱.V) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (k0_h2 : k0_cond2 i = 1#1) (X_arg3 : BufTy.Contents (Elt Ideal) arg3.view.ty) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (X_arg23 : BufTy.Contents (Elt Ideal) arg23.view.ty) (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 X_arg3 X_arg4 X_arg5 X_arg11 X_arg12 X_arg13 X_arg14 X_arg15 X_arg16 X_arg23 n).2.1, ∀ y,
      p.2 y = zArr (arg23.view.read (Elt Ideal) X_arg23) (arg11.view.read (Elt Ideal) X_arg11) (arg12.view.read (Elt Ideal) X_arg12) (arg13.view.read (Elt Ideal) X_arg13) (arg4.view.read (Elt Ideal) X_arg4) (arg5.view.read (Elt Ideal) X_arg5) (View.readAt (Elt Ideal) arg3.view (Rect.unit (s := S1) ![0] S1.size inb_S1_S1_0).toLoadRect X_arg3 (Shape.Idx.first (by decide))) (p.1.emb y) := by
  induction n with
  | zero =>
    intro p hp
    rw [pb_k0_t1.eq_1] at hp
    exact absurd hp List.not_mem_nil
  | succ n ih =>
    intro p hp
    rw [show n + 1 = (⟨n, hn⟩ : Fin k0_t1_loop.trips).val + 1 from rfl, pb_k0_t1_succ] at hp
    rcases List.mem_append.1 hp with hp | hp
    swap
    · exact ih (by omega) p hp
    unfold tripL_k0_t1 at hp
    dsimp only at hp
    rw [trip18] at hp
    obtain rfl := List.mem_singleton.1 hp
    clear hp ih
    refine fun y => piece_off (n := 256) (m := 2880) (p := 32) (q := 2880) (o1 := 32 * n) (o2 := 0) (off2_eq ⟨n, hn⟩) (inb := k0_off2_inb i ⟨n, hn⟩ k0_h2) ?_ y
    intro p q i' j' e1 e2
    obtain rfl : q = j' := Fin.ext (e2.trans (Nat.zero_add _)).symm
    exact cutZ _ _ _ _ _ _ _ p i' (off2_eq _) (off1_eq _) e1 q

theorem loop19 (𝒱 : Variants) (c : Dev nD) (bd : Option 𝒱.V) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (k0_h2 : k0_cond2 i = 1#1) (X_arg3 : BufTy.Contents (Elt Ideal) arg3.view.ty) (X_arg4 : BufTy.Contents (Elt Ideal) arg4.view.ty) (X_arg5 : BufTy.Contents (Elt Ideal) arg5.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (X_arg23 : BufTy.Contents (Elt Ideal) arg23.view.ty) (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h2 X_arg3 X_arg4 X_arg5 X_arg11 X_arg12 X_arg13 X_arg14 X_arg15 X_arg16 X_arg23 n).2.2, ∀ y,
      p.2 y = sArr (arg23.view.read (Elt Ideal) X_arg23) (arg11.view.read (Elt Ideal) X_arg11) (arg12.view.read (Elt Ideal) X_arg12) (arg13.view.read (Elt Ideal) X_arg13) (arg4.view.read (Elt Ideal) X_arg4) (arg5.view.read (Elt Ideal) X_arg5) (View.readAt (Elt Ideal) arg3.view (Rect.unit (s := S1) ![0] S1.size inb_S1_S1_0).toLoadRect X_arg3 (Shape.Idx.first (by decide))) (p.1.emb y) := by
  induction n with
  | zero =>
    intro p hp
    rw [pb_k0_t1.eq_1] at hp
    exact absurd hp List.not_mem_nil
  | succ n ih =>
    intro p hp
    rw [show n + 1 = (⟨n, hn⟩ : Fin k0_t1_loop.trips).val + 1 from rfl, pb_k0_t1_succ] at hp
    rcases List.mem_append.1 hp with hp | hp
    swap
    · exact ih (by omega) p hp
    unfold tripL_k0_t1 at hp
    dsimp only at hp
    rw [trip19] at hp
    obtain rfl := List.mem_singleton.1 hp
    clear hp ih
    intro y
    have h := pieceS (inb := k0_off2_inb i ⟨n, hn⟩ k0_h2) (inb1 := k0_off1_inb i ⟨n, hn⟩ k0_h2) (inbr := inb_S1x2880_S1x2880_0_0)
      (arg23.view.read (Elt Ideal) X_arg23) (arg11.view.read (Elt Ideal) X_arg11) (arg12.view.read (Elt Ideal) X_arg12) (arg13.view.read (Elt Ideal) X_arg13) (arg4.view.read (Elt Ideal) X_arg4) (arg5.view.read (Elt Ideal) X_arg5) (View.readAt (Elt Ideal) arg3.view (Rect.unit (s := S1) ![0] S1.size inb_S1_S1_0).toLoadRect X_arg3 (Shape.Idx.first (by decide))) (off2_eq ⟨n, hn⟩) (off1_eq ⟨n, hn⟩) y
    dsimp only at h ⊢
    exact h

end Cert.Layer

end
-- ==== Proof.Layer.PointC.lean ====
/-
  The last grid point: its block of codes, the accumulator it leaves, and the three results its row loop writes from it.
-/
module

public import proofs.«01_k».proof.Proof.Layer.Grow
public import proofs.«01_k».proof.Proof.Layer.Loop
public import proofs.«01_k».proof.Proof.Gen.KernelIdeal.Frame

@[expose] public section

set_option maxRecDepth 16384

noncomputable section

namespace Cert.Layer

open Idealize.ShloMosaic Idealize.ShloMosaic.TcCoe Cert.KernelIdeal Cert.KernelIdeal.Gen

/-! What the body's run stores, read off the run. -/

theorem runC17 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2).2.1
    = tiles17 (arg21.view.read (Elt Ideal) (harg21.unread xs0)) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (View.readAt (Elt Ideal) arg1.view (Rect.unit (s := S1) ![0] S1.size inb_S1_S1_0).toLoadRect (harg1.unread x0) (Shape.Idx.first (by decide))) (View.readAt (Elt Ideal) arg2.view (Rect.unit (s := S1) ![0] S1.size inb_S1_S1_0).toLoadRect (harg2.unread x1) (Shape.Idx.first (by decide))) := by
  delta kernelRun0_C
  dsimp only
  rfl
theorem runC23 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2).2.2.2.2.2.1
    = slabs23 (View.ld (arg22.view.read (Elt Ideal) (arg22.view.writes (Elt Ideal) arg22.view.junk (tiles22 (arg21.view.read (Elt Ideal) (harg21.unread xs0)) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (View.readAt (Elt Ideal) arg1.view (Rect.unit (s := S1) ![0] S1.size inb_S1_S1_0).toLoadRect (harg1.unread x0) (Shape.Idx.first (by decide))) (View.readAt (Elt Ideal) arg2.view (Rect.unit (s := S1) ![0] S1.size inb_S1_S1_0).toLoadRect (harg2.unread x1) (Shape.Idx.first (by decide)))))) (Rect.unit (s := S256x768) ![0, 0] S256x768.size inb_S256x768_S256x768_0_0)) (arg10.view.read (Elt Ideal) (harg10.unread x9))
      (View.ld (arg23.view.read (Elt Ideal) (harg23.unread xs2)) (Rect.unit (s := S256x2880) ![0, 0] S256x256.size inb_S256x2880_S256x256_0_0)) (View.ld (arg23.view.read (Elt Ideal) (harg23.unread xs2)) (Rect.unit (s := S256x2880) ![0, 256] S256x256.size inb_S256x2880_S256x256_0_256)) (View.ld (arg23.view.read (Elt Ideal) (harg23.unread xs2)) (Rect.unit (s := S256x2880) ![0, 512] S256x256.size inb_S256x2880_S256x256_0_512)) (View.ld (arg23.view.read (Elt Ideal) (harg23.unread xs2)) (Rect.unit (s := S256x2880) ![0, 768] S256x256.size inb_S256x2880_S256x256_0_768)) (View.ld (arg23.view.read (Elt Ideal) (harg23.unread xs2)) (Rect.unit (s := S256x2880) ![0, 1024] S256x256.size inb_S256x2880_S256x256_0_1024)) (View.ld (arg23.view.read (Elt Ideal) (harg23.unread xs2)) (Rect.unit (s := S256x2880) ![0, 1280] S256x256.size inb_S256x2880_S256x256_0_1280)) (View.ld (arg23.view.read (Elt Ideal) (harg23.unread xs2)) (Rect.unit (s := S256x2880) ![0, 1536] S256x256.size inb_S256x2880_S256x256_0_1536)) (View.ld (arg23.view.read (Elt Ideal) (harg23.unread xs2)) (Rect.unit (s := S256x2880) ![0, 1792] S256x256.size inb_S256x2880_S256x256_0_1792)) (View.ld (arg23.view.read (Elt Ideal) (harg23.unread xs2)) (Rect.unit (s := S256x2880) ![0, 2048] S256x256.size inb_S256x2880_S256x256_0_2048)) (View.ld (arg23.view.read (Elt Ideal) (harg23.unread xs2)) (Rect.unit (s := S256x2880) ![0, 2304] S256x256.size inb_S256x2880_S256x256_0_2304)) (View.ld (arg23.view.read (Elt Ideal) (harg23.unread xs2)) (Rect.unit (s := S256x2880) ![0, 2560] S256x256.size inb_S256x2880_S256x256_0_2560)) (View.ld (arg23.view.read (Elt Ideal) (harg23.unread xs2)) (Rect.unit (s := S256x2880) ![0, 2816] ![256, 64] inb_S256x2880_S256x64_0_2816)) := by
  delta kernelRun0_C
  dsimp only
  rfl

/-! What the point leaves, when the kept input holds the codes `a`. -/

/-- The block of codes. -/
theorem leftC17 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) {a : Fin 256 → Fin 2880 → BitVec 8} (hX : ∀ r d, xs0 (ix2 r d) = real8 (a r d)) :
    out0_C_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 = codesOf a x4 x5 x6 x7 x8 (x0 (ix1 0)) (x1 (ix1 0)) := by
  unfold out0_C_17
  rw [View.read_writes_junk_eq_canon, runC17, harg21.read_unread, harg5.read_unread, harg6.read_unread, harg7.read_unread, harg8.read_unread, harg9.read_unread, scalar_at harg1, scalar_at harg2]
  exact tiles17_canon hX

/-- The accumulator's slabs, before they are read by the row loop. -/
theorem slabsC (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) {a : Fin 256 → Fin 2880 → BitVec 8} (hX : ∀ r d, xs0 (ix2 r d) = real8 (a r d)) :
    View.canon (slabs23 (View.ld (arg22.view.read (Elt Ideal) (arg22.view.writes (Elt Ideal) arg22.view.junk (tiles22 (arg21.view.read (Elt Ideal) (harg21.unread xs0)) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (View.readAt (Elt Ideal) arg1.view (Rect.unit (s := S1) ![0] S1.size inb_S1_S1_0).toLoadRect (harg1.unread x0) (Shape.Idx.first (by decide))) (View.readAt (Elt Ideal) arg2.view (Rect.unit (s := S1) ![0] S1.size inb_S1_S1_0).toLoadRect (harg2.unread x1) (Shape.Idx.first (by decide)))))) (Rect.unit (s := S256x768) ![0, 0] S256x768.size inb_S256x768_S256x768_0_0)) (arg10.view.read (Elt Ideal) (harg10.unread x9))
      (View.ld (arg23.view.read (Elt Ideal) (harg23.unread xs2)) (Rect.unit (s := S256x2880) ![0, 0] S256x256.size inb_S256x2880_S256x256_0_0)) (View.ld (arg23.view.read (Elt Ideal) (harg23.unread xs2)) (Rect.unit (s := S256x2880) ![0, 256] S256x256.size inb_S256x2880_S256x256_0_256)) (View.ld (arg23.view.read (Elt Ideal) (harg23.unread xs2)) (Rect.unit (s := S256x2880) ![0, 512] S256x256.size inb_S256x2880_S256x256_0_512)) (View.ld (arg23.view.read (Elt Ideal) (harg23.unread xs2)) (Rect.unit (s := S256x2880) ![0, 768] S256x256.size inb_S256x2880_S256x256_0_768)) (View.ld (arg23.view.read (Elt Ideal) (harg23.unread xs2)) (Rect.unit (s := S256x2880) ![0, 1024] S256x256.size inb_S256x2880_S256x256_0_1024)) (View.ld (arg23.view.read (Elt Ideal) (harg23.unread xs2)) (Rect.unit (s := S256x2880) ![0, 1280] S256x256.size inb_S256x2880_S256x256_0_1280)) (View.ld (arg23.view.read (Elt Ideal) (harg23.unread xs2)) (Rect.unit (s := S256x2880) ![0, 1536] S256x256.size inb_S256x2880_S256x256_0_1536)) (View.ld (arg23.view.read (Elt Ideal) (harg23.unread xs2)) (Rect.unit (s := S256x2880) ![0, 1792] S256x256.size inb_S256x2880_S256x256_0_1792)) (View.ld (arg23.view.read (Elt Ideal) (harg23.unread xs2)) (Rect.unit (s := S256x2880) ![0, 2048] S256x256.size inb_S256x2880_S256x256_0_2048)) (View.ld (arg23.view.read (Elt Ideal) (harg23.unread xs2)) (Rect.unit (s := S256x2880) ![0, 2304] S256x256.size inb_S256x2880_S256x256_0_2304)) (View.ld (arg23.view.read (Elt Ideal) (harg23.unread xs2)) (Rect.unit (s := S256x2880) ![0, 2560] S256x256.size inb_S256x2880_S256x256_0_2560)) (View.ld (arg23.view.read (Elt Ideal) (harg23.unread xs2)) (Rect.unit (s := S256x2880) ![0, 2816] ![256, 64] inb_S256x2880_S256x64_0_2816))) = (sumOf (fun r d => xs2 (ix2 r d)) (blockCode a x4 x5 x6 x7 x8 (x0 (ix1 0)) (x1 (ix1 0))) x9) := by
  rw [harg21.read_unread, harg23.read_unread, View.read_writes_junk_eq_canon, harg10.read_unread, harg5.read_unread, harg6.read_unread, harg7.read_unread, harg8.read_unread, harg9.read_unread, scalar_at harg1, scalar_at harg2]
  exact slabs23_canon (fun r f => (ld_at r f r f (Nat.zero_add _).symm (Nat.zero_add _).symm).trans
    (congrFun (tiles22_canon hX) _))

/-- The accumulator. -/
theorem leftC23 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) {a : Fin 256 → Fin 2880 → BitVec 8} (hX : ∀ r d, xs0 (ix2 r d) = real8 (a r d)) :
    sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 = sumOf (fun r d => xs2 (ix2 r d)) (blockCode a x4 x5 x6 x7 x8 (x0 (ix1 0)) (x1 (ix1 0))) x9 := by
  unfold sout0_C_2
  rw [View.read_writes_junk_eq_canon, runC23]
  exact slabsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 hX

theorem runC16 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2).1
    = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 (harg3.unread x2) (harg4.unread x3) (harg5.unread x4) (harg11.unread x10) (harg12.unread x11) (harg13.unread x12) (harg14.unread x13) (harg15.unread x14) (harg16.unread x15)
      (arg23.view.writes (Elt Ideal) arg23.view.junk (slabs23 (View.ld (arg22.view.read (Elt Ideal) (arg22.view.writes (Elt Ideal) arg22.view.junk (tiles22 (arg21.view.read (Elt Ideal) (harg21.unread xs0)) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (View.readAt (Elt Ideal) arg1.view (Rect.unit (s := S1) ![0] S1.size inb_S1_S1_0).toLoadRect (harg1.unread x0) (Shape.Idx.first (by decide))) (View.readAt (Elt Ideal) arg2.view (Rect.unit (s := S1) ![0] S1.size inb_S1_S1_0).toLoadRect (harg2.unread x1) (Shape.Idx.first (by decide)))))) (Rect.unit (s := S256x768) ![0, 0] S256x768.size inb_S256x768_S256x768_0_0)) (arg10.view.read (Elt Ideal) (harg10.unread x9))
      (View.ld (arg23.view.read (Elt Ideal) (harg23.unread xs2)) (Rect.unit (s := S256x2880) ![0, 0] S256x256.size inb_S256x2880_S256x256_0_0)) (View.ld (arg23.view.read (Elt Ideal) (harg23.unread xs2)) (Rect.unit (s := S256x2880) ![0, 256] S256x256.size inb_S256x2880_S256x256_0_256)) (View.ld (arg23.view.read (Elt Ideal) (harg23.unread xs2)) (Rect.unit (s := S256x2880) ![0, 512] S256x256.size inb_S256x2880_S256x256_0_512)) (View.ld (arg23.view.read (Elt Ideal) (harg23.unread xs2)) (Rect.unit (s := S256x2880) ![0, 768] S256x256.size inb_S256x2880_S256x256_0_768)) (View.ld (arg23.view.read (Elt Ideal) (harg23.unread xs2)) (Rect.unit (s := S256x2880) ![0, 1024] S256x256.size inb_S256x2880_S256x256_0_1024)) (View.ld (arg23.view.read (Elt Ideal) (harg23.unread xs2)) (Rect.unit (s := S256x2880) ![0, 1280] S256x256.size inb_S256x2880_S256x256_0_1280)) (View.ld (arg23.view.read (Elt Ideal) (harg23.unread xs2)) (Rect.unit (s := S256x2880) ![0, 1536] S256x256.size inb_S256x2880_S256x256_0_1536)) (View.ld (arg23.view.read (Elt Ideal) (harg23.unread xs2)) (Rect.unit (s := S256x2880) ![0, 1792] S256x256.size inb_S256x2880_S256x256_0_1792)) (View.ld (arg23.view.read (Elt Ideal) (harg23.unread xs2)) (Rect.unit (s := S256x2880) ![0, 2048] S256x256.size inb_S256x2880_S256x256_0_2048)) (View.ld (arg23.view.read (Elt Ideal) (harg23.unread xs2)) (Rect.unit (s := S256x2880) ![0, 2304] S256x256.size inb_S256x2880_S256x256_0_2304)) (View.ld (arg23.view.read (Elt Ideal) (harg23.unread xs2)) (Rect.unit (s := S256x2880) ![0, 2560] S256x256.size inb_S256x2880_S256x256_0_2560)) (View.ld (arg23.view.read (Elt Ideal) (harg23.unread xs2)) (Rect.unit (s := S256x2880) ![0, 2816] ![256, 64] inb_S256x2880_S256x64_0_2816)))) k0_t1_loop.trips).1 := by
  delta kernelRun0_C
  dsimp only
  rfl

/-- The first result. -/
theorem leftC16 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) {a : Fin 256 → Fin 2880 → BitVec 8} (hX : ∀ r d, xs0 (ix2 r d) = real8 (a r d)) :
    out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 = oArr (sumOf (fun r d => xs2 (ix2 r d)) (blockCode a x4 x5 x6 x7 x8 (x0 (ix1 0)) (x1 (ix1 0))) x9) x10 x11 x12 x3 x4 (x2 (ix1 0)) x13 x14 x15 := by
  unfold out0_C_16
  rw [View.read_writes_junk_eq_canon]
  funext y
  refine View.canon_apply_of_pieces (oArr (sumOf (fun r d => xs2 (ix2 r d)) (blockCode a x4 x5 x6 x7 x8 (x0 (ix1 0)) (x1 (ix1 0))) x9) x10 x11 x12 x3 x4 (x2 (ix1 0)) x13 x14 x15) _ ?_ y (cover0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 y)
  rw [runC16]
  intro p hp z
  have h := loop17 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ _ le_rfl p hp z
  rw [View.read_writes_junk_eq_canon arg23.view, slabsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 hX, harg11.read_unread, harg12.read_unread, harg13.read_unread, harg4.read_unread, harg5.read_unread, scalar_at harg3, harg14.read_unread, harg15.read_unread, harg16.read_unread] at h
  exact h

theorem runC18 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2).2.2.1
    = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 (harg3.unread x2) (harg4.unread x3) (harg5.unread x4) (harg11.unread x10) (harg12.unread x11) (harg13.unread x12) (harg14.unread x13) (harg15.unread x14) (harg16.unread x15)
      (arg23.view.writes (Elt Ideal) arg23.view.junk (slabs23 (View.ld (arg22.view.read (Elt Ideal) (arg22.view.writes (Elt Ideal) arg22.view.junk (tiles22 (arg21.view.read (Elt Ideal) (harg21.unread xs0)) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (View.readAt (Elt Ideal) arg1.view (Rect.unit (s := S1) ![0] S1.size inb_S1_S1_0).toLoadRect (harg1.unread x0) (Shape.Idx.first (by decide))) (View.readAt (Elt Ideal) arg2.view (Rect.unit (s := S1) ![0] S1.size inb_S1_S1_0).toLoadRect (harg2.unread x1) (Shape.Idx.first (by decide)))))) (Rect.unit (s := S256x768) ![0, 0] S256x768.size inb_S256x768_S256x768_0_0)) (arg10.view.read (Elt Ideal) (harg10.unread x9))
      (View.ld (arg23.view.read (Elt Ideal) (harg23.unread xs2)) (Rect.unit (s := S256x2880) ![0, 0] S256x256.size inb_S256x2880_S256x256_0_0)) (View.ld (arg23.view.read (Elt Ideal) (harg23.unread xs2)) (Rect.unit (s := S256x2880) ![0, 256] S256x256.size inb_S256x2880_S256x256_0_256)) (View.ld (arg23.view.read (Elt Ideal) (harg23.unread xs2)) (Rect.unit (s := S256x2880) ![0, 512] S256x256.size inb_S256x2880_S256x256_0_512)) (View.ld (arg23.view.read (Elt Ideal) (harg23.unread xs2)) (Rect.unit (s := S256x2880) ![0, 768] S256x256.size inb_S256x2880_S256x256_0_768)) (View.ld (arg23.view.read (Elt Ideal) (harg23.unread xs2)) (Rect.unit (s := S256x2880) ![0, 1024] S256x256.size inb_S256x2880_S256x256_0_1024)) (View.ld (arg23.view.read (Elt Ideal) (harg23.unread xs2)) (Rect.unit (s := S256x2880) ![0, 1280] S256x256.size inb_S256x2880_S256x256_0_1280)) (View.ld (arg23.view.read (Elt Ideal) (harg23.unread xs2)) (Rect.unit (s := S256x2880) ![0, 1536] S256x256.size inb_S256x2880_S256x256_0_1536)) (View.ld (arg23.view.read (Elt Ideal) (harg23.unread xs2)) (Rect.unit (s := S256x2880) ![0, 1792] S256x256.size inb_S256x2880_S256x256_0_1792)) (View.ld (arg23.view.read (Elt Ideal) (harg23.unread xs2)) (Rect.unit (s := S256x2880) ![0, 2048] S256x256.size inb_S256x2880_S256x256_0_2048)) (View.ld (arg23.view.read (Elt Ideal) (harg23.unread xs2)) (Rect.unit (s := S256x2880) ![0, 2304] S256x256.size inb_S256x2880_S256x256_0_2304)) (View.ld (arg23.view.read (Elt Ideal) (harg23.unread xs2)) (Rect.unit (s := S256x2880) ![0, 2560] S256x256.size inb_S256x2880_S256x256_0_2560)) (View.ld (arg23.view.read (Elt Ideal) (harg23.unread xs2)) (Rect.unit (s := S256x2880) ![0, 2816] ![256, 64] inb_S256x2880_S256x64_0_2816)))) k0_t1_loop.trips).2.1 := by
  delta kernelRun0_C
  dsimp only
  rfl

/-- The third result. -/
theorem leftC18 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) {a : Fin 256 → Fin 2880 → BitVec 8} (hX : ∀ r d, xs0 (ix2 r d) = real8 (a r d)) :
    out0_C_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 = zArr (sumOf (fun r d => xs2 (ix2 r d)) (blockCode a x4 x5 x6 x7 x8 (x0 (ix1 0)) (x1 (ix1 0))) x9) x10 x11 x12 x3 x4 (x2 (ix1 0)) := by
  unfold out0_C_18
  rw [View.read_writes_junk_eq_canon]
  funext y
  refine View.canon_apply_of_pieces (zArr (sumOf (fun r d => xs2 (ix2 r d)) (blockCode a x4 x5 x6 x7 x8 (x0 (ix1 0)) (x1 (ix1 0))) x9) x10 x11 x12 x3 x4 (x2 (ix1 0))) _ ?_ y (cover0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 y)
  rw [runC18]
  intro p hp z
  have h := loop18 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ _ le_rfl p hp z
  rw [View.read_writes_junk_eq_canon arg23.view, slabsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 hX, harg11.read_unread, harg12.read_unread, harg13.read_unread, harg4.read_unread, harg5.read_unread, scalar_at harg3] at h
  exact h

theorem runC19 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2).2.2.2.1
    = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 (harg3.unread x2) (harg4.unread x3) (harg5.unread x4) (harg11.unread x10) (harg12.unread x11) (harg13.unread x12) (harg14.unread x13) (harg15.unread x14) (harg16.unread x15)
      (arg23.view.writes (Elt Ideal) arg23.view.junk (slabs23 (View.ld (arg22.view.read (Elt Ideal) (arg22.view.writes (Elt Ideal) arg22.view.junk (tiles22 (arg21.view.read (Elt Ideal) (harg21.unread xs0)) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (View.readAt (Elt Ideal) arg1.view (Rect.unit (s := S1) ![0] S1.size inb_S1_S1_0).toLoadRect (harg1.unread x0) (Shape.Idx.first (by decide))) (View.readAt (Elt Ideal) arg2.view (Rect.unit (s := S1) ![0] S1.size inb_S1_S1_0).toLoadRect (harg2.unread x1) (Shape.Idx.first (by decide)))))) (Rect.unit (s := S256x768) ![0, 0] S256x768.size inb_S256x768_S256x768_0_0)) (arg10.view.read (Elt Ideal) (harg10.unread x9))
      (View.ld (arg23.view.read (Elt Ideal) (harg23.unread xs2)) (Rect.unit (s := S256x2880) ![0, 0] S256x256.size inb_S256x2880_S256x256_0_0)) (View.ld (arg23.view.read (Elt Ideal) (harg23.unread xs2)) (Rect.unit (s := S256x2880) ![0, 256] S256x256.size inb_S256x2880_S256x256_0_256)) (View.ld (arg23.view.read (Elt Ideal) (harg23.unread xs2)) (Rect.unit (s := S256x2880) ![0, 512] S256x256.size inb_S256x2880_S256x256_0_512)) (View.ld (arg23.view.read (Elt Ideal) (harg23.unread xs2)) (Rect.unit (s := S256x2880) ![0, 768] S256x256.size inb_S256x2880_S256x256_0_768)) (View.ld (arg23.view.read (Elt Ideal) (harg23.unread xs2)) (Rect.unit (s := S256x2880) ![0, 1024] S256x256.size inb_S256x2880_S256x256_0_1024)) (View.ld (arg23.view.read (Elt Ideal) (harg23.unread xs2)) (Rect.unit (s := S256x2880) ![0, 1280] S256x256.size inb_S256x2880_S256x256_0_1280)) (View.ld (arg23.view.read (Elt Ideal) (harg23.unread xs2)) (Rect.unit (s := S256x2880) ![0, 1536] S256x256.size inb_S256x2880_S256x256_0_1536)) (View.ld (arg23.view.read (Elt Ideal) (harg23.unread xs2)) (Rect.unit (s := S256x2880) ![0, 1792] S256x256.size inb_S256x2880_S256x256_0_1792)) (View.ld (arg23.view.read (Elt Ideal) (harg23.unread xs2)) (Rect.unit (s := S256x2880) ![0, 2048] S256x256.size inb_S256x2880_S256x256_0_2048)) (View.ld (arg23.view.read (Elt Ideal) (harg23.unread xs2)) (Rect.unit (s := S256x2880) ![0, 2304] S256x256.size inb_S256x2880_S256x256_0_2304)) (View.ld (arg23.view.read (Elt Ideal) (harg23.unread xs2)) (Rect.unit (s := S256x2880) ![0, 2560] S256x256.size inb_S256x2880_S256x256_0_2560)) (View.ld (arg23.view.read (Elt Ideal) (harg23.unread xs2)) (Rect.unit (s := S256x2880) ![0, 2816] ![256, 64] inb_S256x2880_S256x64_0_2816)))) k0_t1_loop.trips).2.2 := by
  delta kernelRun0_C
  dsimp only
  rfl

/-- The fourth result. -/
theorem leftC19 (c : Dev nD) (i : grid0.Coords) (arg1 : Memref sig .tc .smem S1 .i32) (harg1 : arg1.IsWhole) (arg2 : Memref sig .tc .smem S1 .i32) (harg2 : arg2.IsWhole) (arg3 : Memref sig .tc .smem S1 .i32) (harg3 : arg3.IsWhole) (arg4 : Memref sig .tc .vmem S256x2880 .i8) (harg4 : arg4.IsWhole) (arg5 : Memref sig .tc .vmem S256x1 .i32) (harg5 : arg5.IsWhole) (arg6 : Memref sig .tc .vmem S2880x768 .i8) (harg6 : arg6.IsWhole) (arg7 : Memref sig .tc .vmem S1x768 .i32) (harg7 : arg7.IsWhole) (arg8 : Memref sig .tc .vmem S1x768 .i32) (harg8 : arg8.IsWhole) (arg9 : Memref sig .tc .vmem S1x768 .i32) (harg9 : arg9.IsWhole) (arg10 : Memref sig .tc .vmem S768x2880 .i8) (harg10 : arg10.IsWhole) (arg11 : Memref sig .tc .vmem S1x2880 .i32) (harg11 : arg11.IsWhole) (arg12 : Memref sig .tc .vmem S1x2880 .i32) (harg12 : arg12.IsWhole) (arg13 : Memref sig .tc .vmem S1x2880 .i32) (harg13 : arg13.IsWhole) (arg14 : Memref sig .tc .vmem S1x2880 .i32) (harg14 : arg14.IsWhole) (arg15 : Memref sig .tc .vmem S1x2880 .i32) (harg15 : arg15.IsWhole) (arg16 : Memref sig .tc .vmem S1x2880 .i32) (harg16 : arg16.IsWhole) (arg17 : Memref sig .tc .vmem S256x2880 .i8) (harg17 : arg17.IsWhole) (arg18 : Memref sig .tc .vmem S256x768 .i8) (harg18 : arg18.IsWhole) (arg19 : Memref sig .tc .vmem S256x2880 .i32) (harg19 : arg19.IsWhole) (arg20 : Memref sig .tc .vmem S256x1 .i32) (harg20 : arg20.IsWhole) (arg21 : Memref sig .tc .vmem S256x2880 .bf16) (harg21 : arg21.IsWhole) (arg22 : Memref sig .tc .vmem S256x768 .bf16) (harg22 : arg22.IsWhole) (arg23 : Memref sig .tc .vmem S256x2880 .i32) (harg23 : arg23.IsWhole) (hc0 : ¬cond0_0 i) (hc1 : cond0_1 i) (x0 : Vec Ideal S1 .i32) (x1 : Vec Ideal S1 .i32) (x2 : Vec Ideal S1 .i32) (x3 : Vec Ideal S256x2880 .i8) (x4 : Vec Ideal S256x1 .i32) (x5 : Vec Ideal S2880x768 .i8) (x6 : Vec Ideal S1x768 .i32) (x7 : Vec Ideal S1x768 .i32) (x8 : Vec Ideal S1x768 .i32) (x9 : Vec Ideal S768x2880 .i8) (x10 : Vec Ideal S1x2880 .i32) (x11 : Vec Ideal S1x2880 .i32) (x12 : Vec Ideal S1x2880 .i32) (x13 : Vec Ideal S1x2880 .i32) (x14 : Vec Ideal S1x2880 .i32) (x15 : Vec Ideal S1x2880 .i32) (xs0 : Vec Ideal S256x2880 .bf16) (xs2 : Vec Ideal S256x2880 .i32) {a : Fin 256 → Fin 2880 → BitVec 8} (hX : ∀ r d, xs0 (ix2 r d) = real8 (a r d)) :
    out0_C_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 = sArr (sumOf (fun r d => xs2 (ix2 r d)) (blockCode a x4 x5 x6 x7 x8 (x0 (ix1 0)) (x1 (ix1 0))) x9) x10 x11 x12 x3 x4 (x2 (ix1 0)) := by
  unfold out0_C_19
  rw [View.read_writes_junk_eq_canon]
  funext y
  refine View.canon_apply_of_pieces (sArr (sumOf (fun r d => xs2 (ix2 r d)) (blockCode a x4 x5 x6 x7 x8 (x0 (ix1 0)) (x1 (ix1 0))) x9) x10 x11 x12 x3 x4 (x2 (ix1 0))) _ ?_ y (cover0_C_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 y)
  rw [runC19]
  intro p hp z
  have h := loop19 _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ _ le_rfl p hp z
  rw [View.read_writes_junk_eq_canon arg23.view, slabsC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 xs0 xs2 hX, harg11.read_unread, harg12.read_unread, harg13.read_unread, harg4.read_unread, harg5.read_unread, scalar_at harg3] at h
  exact h

end Cert.Layer

end
-- ==== Proof.Layer.Entry.lean ====
/-
  What the input windows hold at a grid point: the reshaped arguments, whole or cut to the point's 768 hidden columns.
-/
module

public import proofs.«01_k».proof.Proof.Layer.Whole
public import proofs.«01_k».proof.Proof.Gen.KernelIdeal.Frame

@[expose] public section

noncomputable section

namespace Cert.Layer

open Idealize.ShloMosaic Idealize.ShloMosaic.TcCoe Idealize.SL.Sem Cert.KernelIdeal Cert.KernelIdeal.Gen

variable (m : (ℓ : Loc nD τ sig) → Buf (Elt Ideal) ℓ) (c : Dev nD)

/-! The reshapes before the kernel call. -/

theorem V_v0 : V m c main_v0 = shapeCast S256x2880 (m ((c : Thread nD τ).loc main_arg0)) shapeCasts_S2x128x2880_S256x2880 := by
  show StableHlo.after hostOps0 _ (Proc.devRef .tc main_v0) = _
  after_results
  rfl

theorem V_v1 : V m c main_v1 = shapeCast S256x1 (m ((c : Thread nD τ).loc main_arg1)) shapeCasts_S2x128_S256x1 := by
  show StableHlo.after hostOps0 _ (Proc.devRef .tc main_v1) = _
  after_results
  rfl

theorem V_v2 : V m c main_v2 = shapeCast S1 (m ((c : Thread nD τ).loc main_arg6)) shapeCasts_S_S1 := by
  show StableHlo.after hostOps0 _ (Proc.devRef .tc main_v2) = _
  after_results
  rfl

theorem V_v3 : V m c main_v3 = shapeCast S1 (m ((c : Thread nD τ).loc main_arg7)) shapeCasts_S_S1 := by
  show StableHlo.after hostOps0 _ (Proc.devRef .tc main_v3) = _
  after_results
  rfl

theorem V_v4 : V m c main_v4 = shapeCast S1 (m ((c : Thread nD τ).loc main_arg12)) shapeCasts_S_S1 := by
  show StableHlo.after hostOps0 _ (Proc.devRef .tc main_v4) = _
  after_results
  rfl

theorem V_v5 : V m c main_v5 = shapeCast S1x7680 (m ((c : Thread nD τ).loc main_arg3)) shapeCasts_S7680_S1x7680 := by
  show StableHlo.after hostOps0 _ (Proc.devRef .tc main_v5) = _
  after_results
  rfl

theorem V_v6 : V m c main_v6 = shapeCast S1x7680 (m ((c : Thread nD τ).loc main_arg4)) shapeCasts_S7680_S1x7680 := by
  show StableHlo.after hostOps0 _ (Proc.devRef .tc main_v6) = _
  after_results
  rfl

theorem V_v7 : V m c main_v7 = shapeCast S1x7680 (m ((c : Thread nD τ).loc main_arg5)) shapeCasts_S7680_S1x7680 := by
  show StableHlo.after hostOps0 _ (Proc.devRef .tc main_v7) = _
  after_results
  rfl

theorem V_v8 : V m c main_v8 = shapeCast S1x2880 (m ((c : Thread nD τ).loc main_arg9)) shapeCasts_S2880_S1x2880 := by
  show StableHlo.after hostOps0 _ (Proc.devRef .tc main_v8) = _
  after_results
  rfl

theorem V_v9 : V m c main_v9 = shapeCast S1x2880 (m ((c : Thread nD τ).loc main_arg10)) shapeCasts_S2880_S1x2880 := by
  show StableHlo.after hostOps0 _ (Proc.devRef .tc main_v9) = _
  after_results
  rfl

theorem V_v10 : V m c main_v10 = shapeCast S1x2880 (m ((c : Thread nD τ).loc main_arg11)) shapeCasts_S2880_S1x2880 := by
  show StableHlo.after hostOps0 _ (Proc.devRef .tc main_v10) = _
  after_results
  rfl

theorem V_v11 : V m c main_v11 = shapeCast S1x2880 (m ((c : Thread nD τ).loc main_arg13)) shapeCasts_S2880_S1x2880 := by
  show StableHlo.after hostOps0 _ (Proc.devRef .tc main_v11) = _
  after_results
  rfl

theorem V_v12 : V m c main_v12 = shapeCast S1x2880 (m ((c : Thread nD τ).loc main_arg14)) shapeCasts_S2880_S1x2880 := by
  show StableHlo.after hostOps0 _ (Proc.devRef .tc main_v12) = _
  after_results
  rfl

theorem V_v13 : V m c main_v13 = shapeCast S1x2880 (m ((c : Thread nD τ).loc main_arg15)) shapeCasts_S2880_S1x2880 := by
  show StableHlo.after hostOps0 _ (Proc.devRef .tc main_v13) = _
  after_results
  rfl

/-! Where each input window looks. -/

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = 0 ∧ win0_4.index t 1 = 0 :=
  (by decide +kernel : ∀ t : Fin grid0.N, win0_4.index t 0 = 0 ∧ win0_4.index t 1 = 0)

theorem index10 : ∀ t : Fin cfg0.N, win0_10.index t 0 = 0 ∧ win0_10.index t 1 = 0 :=
  (by decide +kernel : ∀ t : Fin grid0.N, win0_10.index t 0 = 0 ∧ win0_10.index t 1 = 0)

theorem index11 : ∀ t : Fin cfg0.N, win0_11.index t 0 = 0 ∧ win0_11.index t 1 = 0 :=
  (by decide +kernel : ∀ t : Fin grid0.N, win0_11.index t 0 = 0 ∧ win0_11.index t 1 = 0)

theorem index12 : ∀ t : Fin cfg0.N, win0_12.index t 0 = 0 ∧ win0_12.index t 1 = 0 :=
  (by decide +kernel : ∀ t : Fin grid0.N, win0_12.index t 0 = 0 ∧ win0_12.index t 1 = 0)

theorem index13 : ∀ t : Fin cfg0.N, win0_13.index t 0 = 0 ∧ win0_13.index t 1 = 0 :=
  (by decide +kernel : ∀ t : Fin grid0.N, win0_13.index t 0 = 0 ∧ win0_13.index t 1 = 0)

theorem index14 : ∀ t : Fin cfg0.N, win0_14.index t 0 = 0 ∧ win0_14.index t 1 = 0 :=
  (by decide +kernel : ∀ t : Fin grid0.N, win0_14.index t 0 = 0 ∧ win0_14.index t 1 = 0)

theorem index15 : ∀ t : Fin cfg0.N, win0_15.index t 0 = 0 ∧ win0_15.index t 1 = 0 :=
  (by decide +kernel : ∀ t : Fin grid0.N, win0_15.index t 0 = 0 ∧ win0_15.index t 1 = 0)

theorem index5 : ∀ t : Fin cfg0.N, win0_5.index t 0 = 0 ∧ win0_5.index t 1 = t.val :=
  (by decide +kernel : ∀ t : Fin grid0.N, win0_5.index t 0 = 0 ∧ win0_5.index t 1 = t.val)

theorem index6 : ∀ t : Fin cfg0.N, win0_6.index t 0 = 0 ∧ win0_6.index t 1 = t.val :=
  (by decide +kernel : ∀ t : Fin grid0.N, win0_6.index t 0 = 0 ∧ win0_6.index t 1 = t.val)

theorem index7 : ∀ t : Fin cfg0.N, win0_7.index t 0 = 0 ∧ win0_7.index t 1 = t.val :=
  (by decide +kernel : ∀ t : Fin grid0.N, win0_7.index t 0 = 0 ∧ win0_7.index t 1 = t.val)

theorem index8 : ∀ t : Fin cfg0.N, win0_8.index t 0 = 0 ∧ win0_8.index t 1 = t.val :=
  (by decide +kernel : ∀ t : Fin grid0.N, win0_8.index t 0 = 0 ∧ win0_8.index t 1 = t.val)

theorem index9 : ∀ t : Fin cfg0.N, win0_9.index t 0 = t.val ∧ win0_9.index t 1 = 0 :=
  (by decide +kernel : ∀ t : Fin grid0.N, win0_9.index t 0 = t.val ∧ win0_9.index t 1 = 0)

/-! The windows that hold a whole array. -/

theorem whole0 (t : Fin cfg0.N) : (iblk m c 0 t : Vec Ideal S1 .i32) = V m c main_v2 := by
  have e0 : win0_0.index t 0 = 0 := (by decide +kernel : ∀ t : Fin grid0.N, win0_0.index t 0 = 0) t
  funext y
  unfold iblk
  rw [View.read_apply]
  show V m c main_v2 _ = V m c main_v2 y
  congr 1
  funext a
  apply Fin.ext
  match a with
  | ⟨0, _⟩ => show win0_0.index t 0 * 1 + 1 * (y 0).val = (y 0).val; rw [e0]; omega

theorem whole1 (t : Fin cfg0.N) : (iblk m c 1 t : Vec Ideal S1 .i32) = V m c main_v3 := by
  have e0 : win0_1.index t 0 = 0 := (by decide +kernel : ∀ t : Fin grid0.N, win0_1.index t 0 = 0) t
  funext y
  unfold iblk
  rw [View.read_apply]
  show V m c main_v3 _ = V m c main_v3 y
  congr 1
  funext a
  apply Fin.ext
  match a with
  | ⟨0, _⟩ => show win0_1.index t 0 * 1 + 1 * (y 0).val = (y 0).val; rw [e0]; omega

theorem whole2 (t : Fin cfg0.N) : (iblk m c 2 t : Vec Ideal S1 .i32) = V m c main_v4 := by
  have e0 : win0_2.index t 0 = 0 := (by decide +kernel : ∀ t : Fin grid0.N, win0_2.index t 0 = 0) t
  funext y
  unfold iblk
  rw [View.read_apply]
  show V m c main_v4 _ = V m c main_v4 y
  congr 1
  funext a
  apply Fin.ext
  match a with
  | ⟨0, _⟩ => show win0_2.index t 0 * 1 + 1 * (y 0).val = (y 0).val; rw [e0]; omega

theorem whole3 (t : Fin cfg0.N) : (iblk m c 3 t : Vec Ideal S256x2880 .i8) = V m c main_v0 := by
  obtain ⟨e0, e1⟩ := index3 t
  funext y
  unfold iblk
  rw [View.read_apply]
  show V m c main_v0 _ = V m c main_v0 y
  congr 1
  funext a
  apply Fin.ext
  match a with
  | ⟨0, _⟩ => show win0_3.index t 0 * 256 + 1 * (y 0).val = (y 0).val; rw [e0]; omega
  | ⟨1, _⟩ => show win0_3.index t 1 * 2880 + 1 * (y 1).val = (y 1).val; rw [e1]; omega

theorem whole4 (t : Fin cfg0.N) : (iblk m c 4 t : Vec Ideal S256x1 .i32) = V m c main_v1 := by
  obtain ⟨e0, e1⟩ := index4 t
  funext y
  unfold iblk
  rw [View.read_apply]
  show V m c main_v1 _ = V m c main_v1 y
  congr 1
  funext a
  apply Fin.ext
  match a with
  | ⟨0, _⟩ => show win0_4.index t 0 * 256 + 1 * (y 0).val = (y 0).val; rw [e0]; omega
  | ⟨1, _⟩ => show win0_4.index t 1 * 1 + 1 * (y 1).val = (y 1).val; rw [e1]; omega

theorem whole10 (t : Fin cfg0.N) : (iblk m c 10 t : Vec Ideal S1x2880 .i32) = V m c main_v8 := by
  obtain ⟨e0, e1⟩ := index10 t
  funext y
  unfold iblk
  rw [View.read_apply]
  show V m c main_v8 _ = V m c main_v8 y
  congr 1
  funext a
  apply Fin.ext
  match a with
  | ⟨0, _⟩ => show win0_10.index t 0 * 1 + 1 * (y 0).val = (y 0).val; rw [e0]; omega
  | ⟨1, _⟩ => show win0_10.index t 1 * 2880 + 1 * (y 1).val = (y 1).val; rw [e1]; omega

theorem whole11 (t : Fin cfg0.N) : (iblk m c 11 t : Vec Ideal S1x2880 .i32) = V m c main_v9 := by
  obtain ⟨e0, e1⟩ := index11 t
  funext y
  unfold iblk
  rw [View.read_apply]
  show V m c main_v9 _ = V m c main_v9 y
  congr 1
  funext a
  apply Fin.ext
  match a with
  | ⟨0, _⟩ => show win0_11.index t 0 * 1 + 1 * (y 0).val = (y 0).val; rw [e0]; omega
  | ⟨1, _⟩ => show win0_11.index t 1 * 2880 + 1 * (y 1).val = (y 1).val; rw [e1]; omega

theorem whole12 (t : Fin cfg0.N) : (iblk m c 12 t : Vec Ideal S1x2880 .i32) = V m c main_v10 := by
  obtain ⟨e0, e1⟩ := index12 t
  funext y
  unfold iblk
  rw [View.read_apply]
  show V m c main_v10 _ = V m c main_v10 y
  congr 1
  funext a
  apply Fin.ext
  match a with
  | ⟨0, _⟩ => show win0_12.index t 0 * 1 + 1 * (y 0).val = (y 0).val; rw [e0]; omega
  | ⟨1, _⟩ => show win0_12.index t 1 * 2880 + 1 * (y 1).val = (y 1).val; rw [e1]; omega

theorem whole13 (t : Fin cfg0.N) : (iblk m c 13 t : Vec Ideal S1x2880 .i32) = V m c main_v11 := by
  obtain ⟨e0, e1⟩ := index13 t
  funext y
  unfold iblk
  rw [View.read_apply]
  show V m c main_v11 _ = V m c main_v11 y
  congr 1
  funext a
  apply Fin.ext
  match a with
  | ⟨0, _⟩ => show win0_13.index t 0 * 1 + 1 * (y 0).val = (y 0).val; rw [e0]; omega
  | ⟨1, _⟩ => show win0_13.index t 1 * 2880 + 1 * (y 1).val = (y 1).val; rw [e1]; omega

theorem whole14 (t : Fin cfg0.N) : (iblk m c 14 t : Vec Ideal S1x2880 .i32) = V m c main_v12 := by
  obtain ⟨e0, e1⟩ := index14 t
  funext y
  unfold iblk
  rw [View.read_apply]
  show V m c main_v12 _ = V m c main_v12 y
  congr 1
  funext a
  apply Fin.ext
  match a with
  | ⟨0, _⟩ => show win0_14.index t 0 * 1 + 1 * (y 0).val = (y 0).val; rw [e0]; omega
  | ⟨1, _⟩ => show win0_14.index t 1 * 2880 + 1 * (y 1).val = (y 1).val; rw [e1]; omega

theorem whole15 (t : Fin cfg0.N) : (iblk m c 15 t : Vec Ideal S1x2880 .i32) = V m c main_v13 := by
  obtain ⟨e0, e1⟩ := index15 t
  funext y
  unfold iblk
  rw [View.read_apply]
  show V m c main_v13 _ = V m c main_v13 y
  congr 1
  funext a
  apply Fin.ext
  match a with
  | ⟨0, _⟩ => show win0_15.index t 0 * 1 + 1 * (y 0).val = (y 0).val; rw [e0]; omega
  | ⟨1, _⟩ => show win0_15.index t 1 * 2880 + 1 * (y 1).val = (y 1).val; rw [e1]; omega

/-! The windows that hold 768 hidden columns. -/

theorem part5 (t : Fin cfg0.N) (i : Fin 2880) (j : Fin 768) :
    (iblk m c 5 t : Vec Ideal S2880x768 .i8) (ix2 i j) = (V m c main_arg2 : Vec Ideal S2880x7680 .i8)
      (ix2 i ⟨768 * t.val + j.val, by have : t.val < 10 := lt_of_lt_of_eq t.isLt N_0; have := j.isLt; omega⟩) := by
  obtain ⟨e0, e1⟩ := index5 t
  unfold iblk
  rw [View.read_apply]
  show V m c main_arg2 _ = V m c main_arg2 _
  congr 1
  funext a
  apply Fin.ext
  match a with
  | ⟨0, _⟩ => show win0_5.index t 0 * 2880 + 1 * i.val = i.val; rw [e0]; omega
  | ⟨1, _⟩ => show win0_5.index t 1 * 768 + 1 * j.val = 768 * t.val + j.val; rw [e1]; omega

theorem part6 (t : Fin cfg0.N) (i : Fin 1) (j : Fin 768) :
    (iblk m c 6 t : Vec Ideal S1x768 .i32) (ix2 i j) = (V m c main_v5 : Vec Ideal S1x7680 .i32)
      (ix2 i ⟨768 * t.val + j.val, by have : t.val < 10 := lt_of_lt_of_eq t.isLt N_0; have := j.isLt; omega⟩) := by
  obtain ⟨e0, e1⟩ := index6 t
  unfold iblk
  rw [View.read_apply]
  show V m c main_v5 _ = V m c main_v5 _
  congr 1
  funext a
  apply Fin.ext
  match a with
  | ⟨0, _⟩ => show win0_6.index t 0 * 1 + 1 * i.val = i.val; rw [e0]; omega
  | ⟨1, _⟩ => show win0_6.index t 1 * 768 + 1 * j.val = 768 * t.val + j.val; rw [e1]; omega

theorem part7 (t : Fin cfg0.N) (i : Fin 1) (j : Fin 768) :
    (iblk m c 7 t : Vec Ideal S1x768 .i32) (ix2 i j) = (V m c main_v6 : Vec Ideal S1x7680 .i32)
      (ix2 i ⟨768 * t.val + j.val, by have : t.val < 10 := lt_of_lt_of_eq t.isLt N_0; have := j.isLt; omega⟩) := by
  obtain ⟨e0, e1⟩ := index7 t
  unfold iblk
  rw [View.read_apply]
  show V m c main_v6 _ = V m c main_v6 _
  congr 1
  funext a
  apply Fin.ext
  match a with
  | ⟨0, _⟩ => show win0_7.index t 0 * 1 + 1 * i.val = i.val; rw [e0]; omega
  | ⟨1, _⟩ => show win0_7.index t 1 * 768 + 1 * j.val = 768 * t.val + j.val; rw [e1]; omega

theorem part8 (t : Fin cfg0.N) (i : Fin 1) (j : Fin 768) :
    (iblk m c 8 t : Vec Ideal S1x768 .i32) (ix2 i j) = (V m c main_v7 : Vec Ideal S1x7680 .i32)
      (ix2 i ⟨768 * t.val + j.val, by have : t.val < 10 := lt_of_lt_of_eq t.isLt N_0; have := j.isLt; omega⟩) := by
  obtain ⟨e0, e1⟩ := index8 t
  unfold iblk
  rw [View.read_apply]
  show V m c main_v7 _ = V m c main_v7 _
  congr 1
  funext a
  apply Fin.ext
  match a with
  | ⟨0, _⟩ => show win0_8.index t 0 * 1 + 1 * i.val = i.val; rw [e0]; omega
  | ⟨1, _⟩ => show win0_8.index t 1 * 768 + 1 * j.val = 768 * t.val + j.val; rw [e1]; omega

theorem part9 (t : Fin cfg0.N) (i : Fin 768) (j : Fin 2880) :
    (iblk m c 9 t : Vec Ideal S768x2880 .i8) (ix2 i j) = (V m c main_arg8 : Vec Ideal S7680x2880 .i8)
      (ix2 ⟨768 * t.val + i.val, by have : t.val < 10 := lt_of_lt_of_eq t.isLt N_0; have := i.isLt; omega⟩ j) := by
  obtain ⟨e0, e1⟩ := index9 t
  unfold iblk
  rw [View.read_apply]
  show V m c main_arg8 _ = V m c main_arg8 _
  congr 1
  funext a
  apply Fin.ext
  match a with
  | ⟨0, _⟩ => show win0_9.index t 0 * 768 + 1 * i.val = 768 * t.val + i.val; rw [e0]; omega
  | ⟨1, _⟩ => show win0_9.index t 1 * 2880 + 1 * j.val = j.val; rw [e1]; omega

end Cert.Layer

end
-- ==== Proof.Layer.Fold.lean ====
/-
  The ten grid points in order: what they leave in the hidden codes, the kept input codes and the accumulator, and so the
  kernel's four results.
-/
module

public import proofs.«01_k».proof.Proof.Layer.PointA
public import proofs.«01_k».proof.Proof.Layer.PointB
public import proofs.«01_k».proof.Proof.Layer.PointC
public import proofs.«01_k».proof.Proof.Layer.Entry
public import proofs.«01_k».proof.Proof.Gen.KernelIdeal.Value

@[expose] public section

set_option maxRecDepth 16384

noncomputable section

namespace Cert.Layer

open Idealize.ShloMosaic Idealize.ShloMosaic.TcCoe Idealize.SL.Sem Cert.KernelIdeal Cert.KernelIdeal.Gen Cert.KernelIdeal.Value

/-- The second product of the codes `G` over the first `768 n` hidden columns. -/
def partSum (G : IVec S256x7680 8) (W : IVec S7680x2880 8) (n : ℕ) (h : n ≤ 10) : IVec S256x2880 32 := fun y =>
  dot (fun f : Fin (768 * n) => G (ix2 (y 0) ⟨f.val, by have := f.isLt; omega⟩))
    (fun f => W (ix2 ⟨f.val, by have := f.isLt; omega⟩ (y 1)))

theorem partSum_all (G : IVec S256x7680 8) (W : IVec S7680x2880 8) : partSum G W 10 le_rfl = accArr G W := rfl

theorem partSum_zero (G : IVec S256x7680 8) (W : IVec S7680x2880 8) (n : ℕ) (hn : n = 0) (h : n ≤ 10) (y) : partSum G W n h y = 0#32 := by
  subst hn
  rfl

theorem partSum_step (G : IVec S256x7680 8) (W : IVec S7680x2880 8) (n : ℕ) (h : n + 1 ≤ 10) (g : Fin 256 → Fin 768 → BitVec 8)
    (w : IVec S768x2880 8) (hg : ∀ r f, g r f = G (ix2 r ⟨768 * n + f.val, by have := f.isLt; omega⟩))
    (hw : ∀ f d, w (ix2 f d) = W (ix2 ⟨768 * n + f.val, by have := f.isLt; omega⟩ d)) :
    sumOf (fun r d => partSum G W n (by omega) (ix2 r d)) g w = partSum G W (n + 1) h := by
  obtain rfl : g = fun r (f : Fin 768) => G (ix2 r ⟨768 * n + f.val, by have := f.isLt; omega⟩) := funext fun r => funext (hg r)
  funext y
  unfold sumOf
  rw [show (fun f => w (ix2 f (y 1))) = _ from funext fun f => hw f (y 1)]
  exact dot_add (n := 768 * n) (m := 768) (l := 768 * (n + 1)) (by omega)
    (fun f => G (ix2 (y 0) ⟨f.val, by have := f.isLt; omega⟩))
    (fun f => W (ix2 ⟨f.val, by have := f.isLt; omega⟩ (y 1)))

variable (m : (ℓ : Loc nD τ sig) → Buf (Elt Ideal) ℓ) (c : Dev nD)

/-- The input codes as the call receives them. -/
def inp : IVec S256x2880 8 := V m c main_v0

/-- The hidden codes of the whole layer. -/
def codesAll : IVec S256x7680 8 :=
  gArr (inp m c) (V m c main_v1 : IVec S256x1 32) (V m c main_arg2 : IVec S2880x7680 8) (V m c main_v5 : IVec S1x7680 32)
    (V m c main_v6 : IVec S1x7680 32) (V m c main_v7 : IVec S1x7680 32) ((V m c main_v2 : IVec S1 32) (ix1 0))
    ((V m c main_v3 : IVec S1 32) (ix1 0))

/-- The second weights. -/
def w2All : IVec S7680x2880 8 := V m c main_arg8

/-- The second product over the first `768 n` hidden columns. -/
def sumTo (n : ℕ) (h : n ≤ 10) : IVec S256x2880 32 := partSum (codesAll m c) (w2All m c) n h

/-- Over all of them. -/
theorem sumTo_all : sumTo m c 10 le_rfl = accArr (codesAll m c) (w2All m c) := partSum_all _ _

/-- A point's block of codes is its 768 columns of all the codes. -/
theorem block_eq (t : Fin cfg0.N) (r : Fin 256) (f : Fin 768) :
    blockCode (fun r d => inp m c (ix2 r d)) (iblk m c 4 t) (iblk m c 5 t) (iblk m c 6 t) (iblk m c 7 t) (iblk m c 8 t)
      ((iblk m c 0 t : IVec S1 32) (ix1 0)) ((iblk m c 1 t : IVec S1 32) (ix1 0)) r f
    = codesAll m c (ix2 r ⟨768 * t.val + f.val, by have : t.val < 10 := lt_of_lt_of_eq t.isLt N_0; have := f.isLt; omega⟩) := by
  unfold blockCode
  rw [whole4, whole0, whole1, part6, part7, part8]
  simp only [part5]
  rfl

/-- Adding a point's product to the sum before it. -/
theorem sum_step (t : Fin cfg0.N) (n : ℕ) (hn : n = t.val) (h : n + 1 ≤ 10) (g : Fin 256 → Fin 768 → BitVec 8)
    (hg : ∀ r f, g r f = codesAll m c (ix2 r ⟨768 * t.val + f.val, by have : t.val < 10 := lt_of_lt_of_eq t.isLt N_0; have := f.isLt; omega⟩)) :
    sumOf (fun r d => sumTo m c n (by omega) (ix2 r d)) g (iblk m c 9 t) = sumTo m c (t.val + 1) (lt_of_lt_of_eq t.isLt N_0) := by
  subst hn
  exact partSum_step _ _ t.val _ g (iblk m c 9 t) hg (part9 m c t)

/-- What holds after point `t`, of the buffers' contents `s`. -/
def Holds (t : Fin cfg0.N) (s : Vec Ideal S256x2880 .i8 × Vec Ideal S256x768 .i8 × Vec Ideal S256x2880 .i32 × Vec Ideal S256x1 .i32
    × Vec Ideal S256x2880 .bf16 × Vec Ideal S256x2880 .i32) : Prop :=
  s.2.1 = (fun y => codesAll m c (ix2 (y 0) ⟨768 * t.val + (y 1).val, by
      have : t.val < 10 := lt_of_lt_of_eq t.isLt N_0; have : (y 1).val < 768 := (y 1).isLt; omega⟩))
  ∧ s.2.2.2.2.1 = (fun y => real8 (inp m c y))
  ∧ s.2.2.2.2.2 = sumTo m c (t.val + 1) (lt_of_lt_of_eq t.isLt N_0)

/-- The first point. -/
theorem holdsA (t : Fin cfg0.N) (acc) (h0 : t.val % 10 = 0) (h1 : ¬t.val % 10 = 9) : Holds m c t (stAt0 m c t.val t.isLt acc) := by
  have e := stAt0_A m c t acc h0 h1
  have hb : ∀ r f, blockCode (fun r d => (iblk m c 3 t : IVec S256x2880 8) (ix2 r d)) (iblk m c 4 t) (iblk m c 5 t) (iblk m c 6 t)
      (iblk m c 7 t) (iblk m c 8 t) ((iblk m c 0 t : IVec S1 32) (ix1 0)) ((iblk m c 1 t : IVec S1 32) (ix1 0)) r f
      = codesAll m c (ix2 r ⟨768 * t.val + f.val, by have : t.val < 10 := lt_of_lt_of_eq t.isLt N_0; have := f.isLt; omega⟩) := by
    rw [whole3]; exact block_eq m c t
  have ht : 0 = t.val := by have : t.val < 10 := lt_of_lt_of_eq t.isLt N_0; omega
  refine ⟨(congrArg (fun s => s.2.1) e).trans ((leftA17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).trans ?_), ?_,
    (congrArg (fun s => s.2.2.2.2.2) e).trans ((leftA23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).trans ?_)⟩
  · exact funext fun y => hb (y 0) (y 1)
  · rw [e]
    dsimp only
    rw [leftA21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), whole3]
    rfl
  · refine Eq.trans ?_ (sum_step m c t t.val rfl (lt_of_lt_of_eq t.isLt N_0) _ hb)
    refine congrArg (fun z => sumOf z _ _) (funext fun r => funext fun d => ?_)
    exact (partSum_zero _ _ t.val ht.symm _ _).symm

/-- A middle point, after what the points before left. -/
theorem holdsB (t : Fin cfg0.N) (acc) (h0 : ¬t.val % 10 = 0) (h1 : ¬t.val % 10 = 9) (n : ℕ) (hn : n + 1 = t.val)
    (hX : acc.2.2.2.2.1 = (fun y => real8 (inp m c y))) (hS : acc.2.2.2.2.2 = sumTo m c (n + 1) (by have : t.val < 10 := lt_of_lt_of_eq t.isLt N_0; omega)) :
    Holds m c t (stAt0 m c t.val t.isLt acc) := by
  have e := stAt0_B m c t acc h0 h1
  have hx : ∀ (r : Fin 256) (d : Fin 2880), acc.2.2.2.2.1 (ix2 r d) = real8 (inp m c (ix2 r d)) := fun r d => congrFun hX _
  refine ⟨(congrArg (fun s => s.2.1) e).trans ((leftB17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) acc.2.2.2.2.1 acc.2.2.2.2.2 hx).trans ?_), (congrArg (fun s => s.2.2.2.2.1) e).trans hX,
    (congrArg (fun s => s.2.2.2.2.2) e).trans ((leftB23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) acc.2.2.2.2.1 acc.2.2.2.2.2 hx).trans ?_)⟩
  · exact funext fun y => block_eq m c t (y 0) (y 1)
  · rw [hS]
    exact sum_step m c t (n + 1) hn (by have : t.val < 10 := lt_of_lt_of_eq t.isLt N_0; omega) _ (block_eq m c t)

/-- The last point, after what the points before left. -/
theorem holdsC (t : Fin cfg0.N) (acc) (h0 : ¬t.val % 10 = 0) (h1 : t.val % 10 = 9) (n : ℕ) (hn : n + 1 = t.val)
    (hX : acc.2.2.2.2.1 = (fun y => real8 (inp m c y))) (hS : acc.2.2.2.2.2 = sumTo m c (n + 1) (by have : t.val < 10 := lt_of_lt_of_eq t.isLt N_0; omega)) :
    Holds m c t (stAt0 m c t.val t.isLt acc) := by
  have e := stAt0_C m c t acc h0 h1
  have hx : ∀ (r : Fin 256) (d : Fin 2880), acc.2.2.2.2.1 (ix2 r d) = real8 (inp m c (ix2 r d)) := fun r d => congrFun hX _
  refine ⟨(congrArg (fun s => s.2.1) e).trans ((leftC17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) acc.2.2.2.2.1 acc.2.2.2.2.2 hx).trans ?_), (congrArg (fun s => s.2.2.2.2.1) e).trans hX,
    (congrArg (fun s => s.2.2.2.2.2) e).trans ((leftC23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) acc.2.2.2.2.1 acc.2.2.2.2.2 hx).trans ?_)⟩
  · exact funext fun y => block_eq m c t (y 0) (y 1)
  · rw [hS]
    exact sum_step m c t (n + 1) hn (by have : t.val < 10 := lt_of_lt_of_eq t.isLt N_0; omega) _ (block_eq m c t)

/-- Every point. -/
theorem holds : ∀ (n : ℕ) (hn : n < cfg0.N), Holds m c ⟨n, hn⟩ (outsAt0 m c n hn)
  | 0, hn => by rw [outsAt0_zero]; exact holdsA m c ⟨0, hn⟩ _ (Nat.zero_mod _) (by show ¬0 % 10 = 9; decide)
  | n + 1, hn => by
    have h10 : n + 1 < 10 := lt_of_lt_of_eq hn N_0
    have ih := holds n (Nat.lt_of_succ_lt hn)
    rw [outsAt0_succ]
    by_cases h : (n + 1) % 10 = 9
    · exact holdsC m c ⟨n + 1, hn⟩ _ (by show ¬(n + 1) % 10 = 0; omega) h n rfl ih.2.1 ih.2.2
    · exact holdsB m c ⟨n + 1, hn⟩ _ (by show ¬(n + 1) % 10 = 0; omega) h n rfl ih.2.1 ih.2.2

/-- The second result. -/
theorem value17 : G17 m c = codesAll m c := by
  funext i
  have hi0 : (i 0).val < 256 := (i 0).isLt
  have hi1 : (i 1).val < 7680 := (i 1).isLt
  have hp : pt17Of i = (i 1).val / 768 := by
    show 10 * ((i 0).val / 256 - 0) + 1 * ((i 1).val / 768 - 0) = _
    omega
  have hN : pt17Of i < cfg0.N := by rw [hp]; exact lt_of_lt_of_eq (by omega) N_0.symm
  unfold G17
  rw [dif_pos hN, ← outsAt0_sweep m c _ hN, (holds m c _ hN).1]
  refine congrArg (codesAll m c) ?_
  funext a
  apply Fin.ext
  match a with
  | ⟨0, _⟩ => show (i 0).val % 256 = (i 0).val; omega
  | ⟨1, _⟩ => show 768 * pt17Of i + (i 1).val % 768 = (i 1).val; rw [hp]; omega

/-- The last point. -/
def lastPt : Fin cfg0.N := ⟨9, lt_of_lt_of_eq (by decide) N_0.symm⟩

/-- What it starts from. -/
def before : Vec Ideal S256x2880 .i8 × Vec Ideal S256x768 .i8 × Vec Ideal S256x2880 .i32 × Vec Ideal S256x1 .i32
    × Vec Ideal S256x2880 .bf16 × Vec Ideal S256x2880 .i32 := outsAt0 m c 8 (lt_of_lt_of_eq (by decide) N_0.symm)

theorem before_inp (r : Fin 256) (d : Fin 2880) : (before m c).2.2.2.2.1 (ix2 r d) = real8 (inp m c (ix2 r d)) :=
  congrFun (holds m c 8 (lt_of_lt_of_eq (by decide) N_0.symm)).2.1 _

/-- The accumulator it leaves is the whole second product. -/
theorem last_sum : sumOf (fun r d => (before m c).2.2.2.2.2 (ix2 r d))
    (blockCode (fun r d => inp m c (ix2 r d)) (iblk m c 4 lastPt) (iblk m c 5 lastPt) (iblk m c 6 lastPt) (iblk m c 7 lastPt)
      (iblk m c 8 lastPt) ((iblk m c 0 lastPt : IVec S1 32) (ix1 0)) ((iblk m c 1 lastPt : IVec S1 32) (ix1 0))) (iblk m c 9 lastPt)
    = accArr (codesAll m c) (w2All m c) := by
  have h : (before m c).2.2.2.2.2 = sumTo m c 9 (by decide) := (holds m c 8 (lt_of_lt_of_eq (by decide) N_0.symm)).2.2
  rw [h]
  exact (sum_step m c lastPt 9 rfl le_rfl _ (block_eq m c lastPt)).trans (sumTo_all m c)

/-- The fold's state at the last point is the last point's step. -/
theorem last_step : Pipeline.accAt (fun n h => stAt0 m c n h junk0) (stAt0 m c) 0 9 (lt_of_lt_of_eq (by decide) N_0.symm)
    = stAt0 m c (lastPt).val lastPt.isLt (before m c) :=
  (outsAt0_sweep m c 9 lastPt.isLt).symm

/-- The first result. -/
theorem value16 : G16 m c = oArr (accArr (codesAll m c) (w2All m c)) (V m c main_v8 : IVec S1x2880 32) (V m c main_v9 : IVec S1x2880 32)
    (V m c main_v10 : IVec S1x2880 32) (inp m c) (V m c main_v1 : IVec S256x1 32) ((V m c main_v4 : IVec S1 32) (ix1 0))
    (V m c main_v11 : IVec S1x2880 32) (V m c main_v12 : IVec S1x2880 32) (V m c main_v13 : IVec S1x2880 32) := by
  rw [G16_last, last_step]
  refine (congrArg (fun s => s.1) (stAt0_C m c lastPt (before m c) (by decide) (by decide))).trans ((leftC16 c (grid0.coords lastPt) (ms0_0 lastPt) (hs0_0 lastPt) (ms0_1 lastPt) (hs0_1 lastPt) (ms0_2 lastPt) (hs0_2 lastPt) (ms0_3 lastPt) (hs0_3 lastPt) (ms0_4 lastPt) (hs0_4 lastPt) (ms0_5 lastPt) (hs0_5 lastPt) (ms0_6 lastPt) (hs0_6 lastPt) (ms0_7 lastPt) (hs0_7 lastPt) (ms0_8 lastPt) (hs0_8 lastPt) (ms0_9 lastPt) (hs0_9 lastPt) (ms0_10 lastPt) (hs0_10 lastPt) (ms0_11 lastPt) (hs0_11 lastPt) (ms0_12 lastPt) (hs0_12 lastPt) (ms0_13 lastPt) (hs0_13 lastPt) (ms0_14 lastPt) (hs0_14 lastPt) (ms0_15 lastPt) (hs0_15 lastPt) (ms0_16 lastPt) (hs0_16 lastPt) (ms0_17 lastPt) (hs0_17 lastPt) (ms0_18 lastPt) (hs0_18 lastPt) (ms0_19 lastPt) (hs0_19 lastPt) scM0_0 (Memref.isWhole_whole _) scM0_1 (Memref.isWhole_whole _) scM0_2 (Memref.isWhole_whole _) (fun h => (by decide : ¬(lastPt).val % 10 = 0) ((hcond0_0 lastPt).mp h)) ((hcond0_1 lastPt).mpr (by decide : (lastPt).val % 10 = 9)) (iblk m c 0 lastPt) (iblk m c 1 lastPt) (iblk m c 2 lastPt) (iblk m c 3 lastPt) (iblk m c 4 lastPt) (iblk m c 5 lastPt) (iblk m c 6 lastPt) (iblk m c 7 lastPt) (iblk m c 8 lastPt) (iblk m c 9 lastPt) (iblk m c 10 lastPt) (iblk m c 11 lastPt) (iblk m c 12 lastPt) (iblk m c 13 lastPt) (iblk m c 14 lastPt) (iblk m c 15 lastPt) (before m c).2.2.2.2.1 (before m c).2.2.2.2.2 (before_inp m c)).trans ?_)
  rw [last_sum, whole10, whole11, whole12, whole3, whole4, whole2, whole13, whole14, whole15]
  rfl

/-- The third result. -/
theorem value18 : G18 m c = zArr (accArr (codesAll m c) (w2All m c)) (V m c main_v8 : IVec S1x2880 32) (V m c main_v9 : IVec S1x2880 32)
    (V m c main_v10 : IVec S1x2880 32) (inp m c) (V m c main_v1 : IVec S256x1 32) ((V m c main_v4 : IVec S1 32) (ix1 0)) := by
  rw [G18_last, last_step]
  refine (congrArg (fun s => s.2.2.1) (stAt0_C m c lastPt (before m c) (by decide) (by decide))).trans ((leftC18 c (grid0.coords lastPt) (ms0_0 lastPt) (hs0_0 lastPt) (ms0_1 lastPt) (hs0_1 lastPt) (ms0_2 lastPt) (hs0_2 lastPt) (ms0_3 lastPt) (hs0_3 lastPt) (ms0_4 lastPt) (hs0_4 lastPt) (ms0_5 lastPt) (hs0_5 lastPt) (ms0_6 lastPt) (hs0_6 lastPt) (ms0_7 lastPt) (hs0_7 lastPt) (ms0_8 lastPt) (hs0_8 lastPt) (ms0_9 lastPt) (hs0_9 lastPt) (ms0_10 lastPt) (hs0_10 lastPt) (ms0_11 lastPt) (hs0_11 lastPt) (ms0_12 lastPt) (hs0_12 lastPt) (ms0_13 lastPt) (hs0_13 lastPt) (ms0_14 lastPt) (hs0_14 lastPt) (ms0_15 lastPt) (hs0_15 lastPt) (ms0_16 lastPt) (hs0_16 lastPt) (ms0_17 lastPt) (hs0_17 lastPt) (ms0_18 lastPt) (hs0_18 lastPt) (ms0_19 lastPt) (hs0_19 lastPt) scM0_0 (Memref.isWhole_whole _) scM0_1 (Memref.isWhole_whole _) scM0_2 (Memref.isWhole_whole _) (fun h => (by decide : ¬(lastPt).val % 10 = 0) ((hcond0_0 lastPt).mp h)) ((hcond0_1 lastPt).mpr (by decide : (lastPt).val % 10 = 9)) (iblk m c 0 lastPt) (iblk m c 1 lastPt) (iblk m c 2 lastPt) (iblk m c 3 lastPt) (iblk m c 4 lastPt) (iblk m c 5 lastPt) (iblk m c 6 lastPt) (iblk m c 7 lastPt) (iblk m c 8 lastPt) (iblk m c 9 lastPt) (iblk m c 10 lastPt) (iblk m c 11 lastPt) (iblk m c 12 lastPt) (iblk m c 13 lastPt) (iblk m c 14 lastPt) (iblk m c 15 lastPt) (before m c).2.2.2.2.1 (before m c).2.2.2.2.2 (before_inp m c)).trans ?_)
  rw [last_sum, whole10, whole11, whole12, whole3, whole4, whole2]
  rfl

/-- The fourth result. -/
theorem value19 : G19 m c = sArr (accArr (codesAll m c) (w2All m c)) (V m c main_v8 : IVec S1x2880 32) (V m c main_v9 : IVec S1x2880 32)
    (V m c main_v10 : IVec S1x2880 32) (inp m c) (V m c main_v1 : IVec S256x1 32) ((V m c main_v4 : IVec S1 32) (ix1 0)) := by
  rw [G19_last, last_step]
  refine (congrArg (fun s => s.2.2.2.1) (stAt0_C m c lastPt (before m c) (by decide) (by decide))).trans ((leftC19 c (grid0.coords lastPt) (ms0_0 lastPt) (hs0_0 lastPt) (ms0_1 lastPt) (hs0_1 lastPt) (ms0_2 lastPt) (hs0_2 lastPt) (ms0_3 lastPt) (hs0_3 lastPt) (ms0_4 lastPt) (hs0_4 lastPt) (ms0_5 lastPt) (hs0_5 lastPt) (ms0_6 lastPt) (hs0_6 lastPt) (ms0_7 lastPt) (hs0_7 lastPt) (ms0_8 lastPt) (hs0_8 lastPt) (ms0_9 lastPt) (hs0_9 lastPt) (ms0_10 lastPt) (hs0_10 lastPt) (ms0_11 lastPt) (hs0_11 lastPt) (ms0_12 lastPt) (hs0_12 lastPt) (ms0_13 lastPt) (hs0_13 lastPt) (ms0_14 lastPt) (hs0_14 lastPt) (ms0_15 lastPt) (hs0_15 lastPt) (ms0_16 lastPt) (hs0_16 lastPt) (ms0_17 lastPt) (hs0_17 lastPt) (ms0_18 lastPt) (hs0_18 lastPt) (ms0_19 lastPt) (hs0_19 lastPt) scM0_0 (Memref.isWhole_whole _) scM0_1 (Memref.isWhole_whole _) scM0_2 (Memref.isWhole_whole _) (fun h => (by decide : ¬(lastPt).val % 10 = 0) ((hcond0_0 lastPt).mp h)) ((hcond0_1 lastPt).mpr (by decide : (lastPt).val % 10 = 9)) (iblk m c 0 lastPt) (iblk m c 1 lastPt) (iblk m c 2 lastPt) (iblk m c 3 lastPt) (iblk m c 4 lastPt) (iblk m c 5 lastPt) (iblk m c 6 lastPt) (iblk m c 7 lastPt) (iblk m c 8 lastPt) (iblk m c 9 lastPt) (iblk m c 10 lastPt) (iblk m c 11 lastPt) (iblk m c 12 lastPt) (iblk m c 13 lastPt) (iblk m c 14 lastPt) (iblk m c 15 lastPt) (before m c).2.2.2.2.1 (before m c).2.2.2.2.2 (before_inp m c)).trans ?_)
  rw [last_sum, whole10, whole11, whole12, whole3, whole4, whole2]
  rfl

end Cert.Layer

end
-- ==== Proof.Layer.RefEntry.lean ====
/-
  The reference's reshapes before its kernel call.
-/
module

public import proofs.«01_k».proof.Proof.Layer.Whole
public import proofs.«01_k».proof.Proof.Gen.ReferenceIdeal.Frame

@[expose] public section

noncomputable section

namespace Cert.Layer.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

theorem V_v0 : V m c main_v0 = shapeCast S256x2880 (m ((c : Thread nD τ).loc main_arg0)) shapeCasts_S2x128x2880_S256x2880 := by
  show StableHlo.after hostOps0 _ (Proc.devRef .tc main_v0) = _
  after_results
  rfl

theorem V_v1 : V m c main_v1 = shapeCast S256x1 (m ((c : Thread nD τ).loc main_arg1)) shapeCasts_S2x128_S256x1 := by
  show StableHlo.after hostOps0 _ (Proc.devRef .tc main_v1) = _
  after_results
  rfl

theorem V_v5 : V m c main_v5 = shapeCast S1x1 (m ((c : Thread nD τ).loc main_arg6)) shapeCasts_S_S1x1 := by
  show StableHlo.after hostOps0 _ (Proc.devRef .tc main_v5) = _
  after_results
  rfl

theorem V_v6 : V m c main_v6 = shapeCast S1x1 (m ((c : Thread nD τ).loc main_arg7)) shapeCasts_S_S1x1 := by
  show StableHlo.after hostOps0 _ (Proc.devRef .tc main_v6) = _
  after_results
  rfl

theorem V_v10 : V m c main_v10 = shapeCast S1x1 (m ((c : Thread nD τ).loc main_arg12)) shapeCasts_S_S1x1 := by
  show StableHlo.after hostOps0 _ (Proc.devRef .tc main_v10) = _
  after_results
  rfl

theorem V_v2 : V m c main_v2 = shapeCast S1x7680 (m ((c : Thread nD τ).loc main_arg3)) shapeCasts_S7680_S1x7680 := by
  show StableHlo.after hostOps0 _ (Proc.devRef .tc main_v2) = _
  after_results
  rfl

theorem V_v3 : V m c main_v3 = shapeCast S1x7680 (m ((c : Thread nD τ).loc main_arg4)) shapeCasts_S7680_S1x7680 := by
  show StableHlo.after hostOps0 _ (Proc.devRef .tc main_v3) = _
  after_results
  rfl

theorem V_v4 : V m c main_v4 = shapeCast S1x7680 (m ((c : Thread nD τ).loc main_arg5)) shapeCasts_S7680_S1x7680 := by
  show StableHlo.after hostOps0 _ (Proc.devRef .tc main_v4) = _
  after_results
  rfl

theorem V_v7 : V m c main_v7 = shapeCast S1x2880 (m ((c : Thread nD τ).loc main_arg9)) shapeCasts_S2880_S1x2880 := by
  show StableHlo.after hostOps0 _ (Proc.devRef .tc main_v7) = _
  after_results
  rfl

theorem V_v8 : V m c main_v8 = shapeCast S1x2880 (m ((c : Thread nD τ).loc main_arg10)) shapeCasts_S2880_S1x2880 := by
  show StableHlo.after hostOps0 _ (Proc.devRef .tc main_v8) = _
  after_results
  rfl

theorem V_v9 : V m c main_v9 = shapeCast S1x2880 (m ((c : Thread nD τ).loc main_arg11)) shapeCasts_S2880_S1x2880 := by
  show StableHlo.after hostOps0 _ (Proc.devRef .tc main_v9) = _
  after_results
  rfl

theorem V_v11 : V m c main_v11 = shapeCast S1x2880 (m ((c : Thread nD τ).loc main_arg13)) shapeCasts_S2880_S1x2880 := by
  show StableHlo.after hostOps0 _ (Proc.devRef .tc main_v11) = _
  after_results
  rfl

theorem V_v12 : V m c main_v12 = shapeCast S1x2880 (m ((c : Thread nD τ).loc main_arg14)) shapeCasts_S2880_S1x2880 := by
  show StableHlo.after hostOps0 _ (Proc.devRef .tc main_v12) = _
  after_results
  rfl

theorem V_v13 : V m c main_v13 = shapeCast S1x2880 (m ((c : Thread nD τ).loc main_arg15)) shapeCasts_S2880_S1x2880 := by
  show StableHlo.after hostOps0 _ (Proc.devRef .tc main_v13) = _
  after_results
  rfl

end Cert.Layer.Ref

end
-- ==== Proof.Layer.RefRows.lean ====
/-
  The reference's body at an index: its hidden codes, its residual sums, its layer normalisation by integers, its output codes.
-/
module

public import proofs.«01_k».proof.Proof.Layer.Whole
public import proofs.«01_k».proof.Proof.Gen.ReferenceIdeal.Skeleton

@[expose] public section

noncomputable section

namespace Cert.Layer.Ref

open Idealize.ShloMosaic Cert.ReferenceIdeal Cert.ReferenceIdeal.Gen

/-! The first layer. -/

section
variable (x : IVec S256x2880 8) (xe : IVec S256x1 32) (w1 : IVec S2880x7680 8) (m1 k1 b1 : IVec S1x7680 32) (m2 k2 : IVec S1x1 32)
  (r : Fin 256) (f : Fin 7680)

/-- The first product, rescaled. -/
theorem scaled_apply :
    k0_pay4 (F := Ideal) x xe w1 m1 k1 (ix2 r f)
      = dyadic (dot (fun d => x (ix2 r d)) fun d => w1 (ix2 d f)) (m1 (ix2 0 f)) (IntOp.subi (k1 (ix2 0 f)) (xe (ix2 r 0))) := by
  rw [← fptosi_sum (fun d => x (ix2 r d)) (fun d => w1 (ix2 d f)) (by norm_num)]
  unfold k0_pay4 k0_pay2 k0_pay3
  simp only [pointwise]
  rfl

/-- The activation of the clamped hidden value. -/
theorem act_apply (h : IVec S256x7680 32) :
    k0_pay6 h (k0_pay5 (F := Ideal) b1) (ix2 r f) = gelu (clamp 4294901761#32 65535#32 (IntOp.addi (h (ix2 r f)) (b1 (ix2 0 f)))) := by
  unfold k0_pay6 k0_pay5
  simp only [pointwise]
  rfl

/-- The hidden code of a rescaled product. -/
theorem code_apply (h t : IVec S256x7680 32) :
    k0_pay13 (k0_pay7 (F := Ideal) m2) (k0_pay8 (F := Ideal) k2) (k0_pay9 (F := Ideal) k2) (k0_pay10 (F := Ideal) h t k2)
        (k0_pay11 (F := Ideal) h t k2) (k0_pay12 (F := Ideal) m2) (ix2 r f)
      = (clamp 4294967169#32 127#32 (dyadic (k0_pay6 h t (ix2 r f)) (m2 (ix2 0 0)) (k2 (ix2 0 0)))).setWidth 8 := by
  unfold k0_pay13 k0_pay10 k0_pay11 k0_pay12 k0_pay9 k0_pay8 k0_pay7
  simp only [pointwise]
  rfl
end

/-- The hidden codes. -/
def hiddenCodes (x : IVec S256x2880 8) (xe : IVec S256x1 32) (w1 : IVec S2880x7680 8) (m1 k1 b1 : IVec S1x7680 32)
    (m2 k2 : IVec S1x1 32) : IVec S256x7680 8 :=
  k0_pay13 (k0_pay7 (F := Ideal) m2) (k0_pay8 (F := Ideal) k2) (k0_pay9 (F := Ideal) k2)
    (k0_pay10 (F := Ideal) (k0_pay4 (F := Ideal) x xe w1 m1 k1) (k0_pay5 (F := Ideal) b1) k2)
    (k0_pay11 (F := Ideal) (k0_pay4 (F := Ideal) x xe w1 m1 k1) (k0_pay5 (F := Ideal) b1) k2) (k0_pay12 (F := Ideal) m2)

theorem hiddenCodes_eq (x : IVec S256x2880 8) (xe : IVec S256x1 32) (w1 : IVec S2880x7680 8) (m1 k1 b1 : IVec S1x7680 32)
    (m2 k2 : IVec S1x1 32) :
    hiddenCodes x xe w1 m1 k1 b1 m2 k2 = gArr x xe w1 m1 k1 b1 (m2 (ix2 0 0)) (k2 (ix2 0 0)) := by
  have h : ∀ (r : Fin 256) (f : Fin 7680), hiddenCodes x xe w1 m1 k1 b1 m2 k2 (ix2 r f)
      = gArr x xe w1 m1 k1 b1 (m2 (ix2 0 0)) (k2 (ix2 0 0)) (ix2 r f) := fun r f => by
    unfold hiddenCodes
    rw [code_apply, act_apply, scaled_apply]
    rfl
  funext y
  rw [eq_ix2 y]
  exact h _ _

/-! The second layer. -/

section
variable (p1 p2 p3 : IVec S1x1 32) (p4 p5 p6 : IVec S256x7680 32) (w2 : IVec S7680x2880 8)
  (m k b : IVec S1x2880 32) (x : IVec S256x2880 8) (xe : IVec S256x1 32) (ze : IVec S1x1 32) (r : Fin 256) (c : Fin 2880)

/-- The second product. -/
theorem acc_eq : k0_pay14 (F := Ideal) p1 p2 p3 p4 p5 p6 w2 = accArr (k0_pay13 p1 p2 p3 p4 p5 p6) w2 := by
  have h : ∀ (r : Fin 256) (c : Fin 2880), k0_pay14 (F := Ideal) p1 p2 p3 p4 p5 p6 w2 (ix2 r c)
      = dot (fun f => k0_pay13 p1 p2 p3 p4 p5 p6 (ix2 r f)) fun f => w2 (ix2 f c) := fun r c => by
    rw [← fptosi_sum (fun f => k0_pay13 p1 p2 p3 p4 p5 p6 (ix2 r f)) (fun f => w2 (ix2 f c)) (by norm_num)]
    unfold k0_pay14
    generalize k0_pay13 p1 p2 p3 p4 p5 p6 = g
    simp only [pointwise]
    rfl
  funext y
  rw [eq_ix2 y]
  exact h _ _

/-- The residual sums. -/
def sums : IVec S256x2880 32 :=
  k0_pay20 (F := Ideal) (k0_pay2 (F := Ideal) x) (k0_pay3 (F := Ideal) xe) (k0_pay15 (F := Ideal) m) (k0_pay16 (F := Ideal) k)
    (k0_pay17 (F := Ideal) k) (k0_pay18 (F := Ideal) p1 p2 p3 p4 p5 p6 w2 k) (k0_pay19 (F := Ideal) p1 p2 p3 p4 p5 p6 w2 m k) ze b

/-- The parts of the second product's rescaling. -/
theorem low_apply : k0_pay18 (F := Ideal) p1 p2 p3 p4 p5 p6 w2 k (ix2 r c)
    = IntOp.andi (k0_pay14 (F := Ideal) p1 p2 p3 p4 p5 p6 w2 (ix2 r c))
        (IntOp.subi (IntOp.shli .vector 1#32 (IntOp.minsi (IntOp.subi (k (ix2 0 c)) 1#32) 16#32)) 1#32) := by
  unfold k0_pay18 k0_pay17 k0_pay16
  generalize k0_pay14 (F := Ideal) p1 p2 p3 p4 p5 p6 w2 = A
  simp only [pointwise]
  rfl

theorem high_apply : k0_pay19 (F := Ideal) p1 p2 p3 p4 p5 p6 w2 m k (ix2 r c)
    = IntOp.muli (IntOp.shrsi .vector (k0_pay14 (F := Ideal) p1 p2 p3 p4 p5 p6 w2 (ix2 r c))
        (IntOp.minsi (IntOp.subi (k (ix2 0 c)) 1#32) 16#32)) (m (ix2 0 c)) := by
  unfold k0_pay19 k0_pay17 k0_pay16 k0_pay15
  generalize k0_pay14 (F := Ideal) p1 p2 p3 p4 p5 p6 w2 = A
  simp only [pointwise]
  rfl

/-- The residual sum from those parts, taken of `a`. -/
theorem zed_apply (a : BitVec 32) (lo hi : IVec S256x2880 32)
    (hlo : lo (ix2 r c) = IntOp.andi a (IntOp.subi (IntOp.shli .vector 1#32 (IntOp.minsi (IntOp.subi (k (ix2 0 c)) 1#32) 16#32)) 1#32))
    (hhi : hi (ix2 r c) = IntOp.muli (IntOp.shrsi .vector a (IntOp.minsi (IntOp.subi (k (ix2 0 c)) 1#32) 16#32)) (m (ix2 0 c))) :
    k0_pay20 (F := Ideal) (k0_pay2 (F := Ideal) x) (k0_pay3 (F := Ideal) xe) (k0_pay15 (F := Ideal) m) (k0_pay16 (F := Ideal) k)
        (k0_pay17 (F := Ideal) k) lo hi ze b (ix2 r c)
      = zed a (m (ix2 0 c)) (k (ix2 0 c)) (x (ix2 r c)) (xe (ix2 r 0)) (ze (ix2 0 0)) (b (ix2 0 c)) := by
  unfold k0_pay20 k0_pay2 k0_pay3 k0_pay15 k0_pay17 k0_pay16
  simp only [pointwise, hlo, hhi]
  rfl

theorem sums_apply : sums p1 p2 p3 p4 p5 p6 w2 m k b x xe ze (ix2 r c)
    = zedAt (k0_pay14 (F := Ideal) p1 p2 p3 p4 p5 p6 w2) m k b x xe (ze (ix2 0 0)) r c := by
  unfold sums zedAt
  exact zed_apply m k b x xe ze r c _ _ _ (low_apply p1 p2 p3 p4 p5 p6 w2 k r c) (high_apply p1 p2 p3 p4 p5 p6 w2 m k r c)

/-- The rows' sums divided by their length: quotients, whether the sign differs, remainders. -/
def quot : IVec S256x1 32 :=
  k0_pay22 (F := Ideal) (k0_pay2 (F := Ideal) x) (k0_pay3 (F := Ideal) xe) (k0_pay15 (F := Ideal) m) (k0_pay16 (F := Ideal) k)
    (k0_pay17 (F := Ideal) k) (k0_pay18 (F := Ideal) p1 p2 p3 p4 p5 p6 w2 k) (k0_pay19 (F := Ideal) p1 p2 p3 p4 p5 p6 w2 m k) ze b
def differ : IVec S256x1 1 :=
  k0_pay23 (F := Ideal) (k0_pay2 (F := Ideal) x) (k0_pay3 (F := Ideal) xe) (k0_pay15 (F := Ideal) m) (k0_pay16 (F := Ideal) k)
    (k0_pay17 (F := Ideal) k) (k0_pay18 (F := Ideal) p1 p2 p3 p4 p5 p6 w2 k) (k0_pay19 (F := Ideal) p1 p2 p3 p4 p5 p6 w2 m k) ze b
def remn : IVec S256x1 32 :=
  k0_pay24 (F := Ideal) (k0_pay2 (F := Ideal) x) (k0_pay3 (F := Ideal) xe) (k0_pay15 (F := Ideal) m) (k0_pay16 (F := Ideal) k)
    (k0_pay17 (F := Ideal) k) (k0_pay18 (F := Ideal) p1 p2 p3 p4 p5 p6 w2 k) (k0_pay19 (F := Ideal) p1 p2 p3 p4 p5 p6 w2 m k) ze b

/-- The rows less their floor means. -/
theorem cent_apply :
    k0_pay25 (sums p1 p2 p3 p4 p5 p6 w2 m k b x xe ze) (quot p1 p2 p3 p4 p5 p6 w2 m k b x xe ze) (differ p1 p2 p3 p4 p5 p6 w2 m k b x xe ze)
        (remn p1 p2 p3 p4 p5 p6 w2 m k b x xe ze) (ix2 r c)
      = cent (fun d => sums p1 p2 p3 p4 p5 p6 w2 m k b x xe ze (ix2 r d)) c := by
  unfold k0_pay25 quot differ remn k0_pay24 k0_pay23 k0_pay22 k0_pay21
  simp only [pointwise]
  rfl
end

/-! The normalisation, from the rows' sums and whatever their floor means were computed from. -/

section
variable (z : IVec S256x2880 32) (q : IVec S256x1 32) (d : IVec S256x1 1) (e : IVec S256x1 32) (r : Fin 256) (c : Fin 2880)
  (s : Fin 2880 → BitVec 32) (hs : ∀ c, k0_pay25 z q d e (ix2 r c) = cent s c)
include hs

/-- The shift of a row. -/
theorem shift_apply : k0_pay26 z q d e (ix2 r 0) = shiftOf s := by
  unfold k0_pay26
  simp only [pointwise, hs]
  rfl

/-- The sum of squares of a shifted row. -/
theorem var_apply : k0_pay27 z q d e (ix2 r 0) = varOf s := by
  unfold k0_pay27
  simp only [pointwise, hs]
  unfold varOf rowSum
  refine Finset.fold_congr fun k _ => ?_
  exact congrArg (fun w => IntOp.muli (IntOp.shrsi .vector (cent s k) w) (IntOp.shrsi .vector (cent s k) w)) (shift_apply z q d e r s hs)
end

section
variable (z : IVec S256x2880 32) (q : IVec S256x1 32) (d : IVec S256x1 1) (e : IVec S256x1 32) (r : Fin 256)

/-- The first step of the square root, from its starting power of two. -/
theorem step1 :
    k0_pay32 (k0_pay27 z q d e) (k0_pay28 z q d e) (k0_pay29 z q d e) (k0_pay30 z q d e) k0_pay31 (ix2 r 0)
      = newton (k0_pay27 z q d e (ix2 r 0)) (start (k0_pay27 z q d e (ix2 r 0))) := by
  unfold k0_pay32 k0_pay29 k0_pay30 k0_pay31 k0_pay28
  simp only [pointwise]
  rfl

variable (n t1 t2 t3 t4 : IVec S256x1 32)

/-- The next two. -/
theorem steps23 :
    k0_pay34 n (k0_pay32 n t1 t2 t3 t4) (k0_pay33 n t1 t2 t3 t4) (ix2 r 0)
      = newton (n (ix2 r 0)) (newton (n (ix2 r 0)) (k0_pay32 n t1 t2 t3 t4 (ix2 r 0))) := by
  unfold k0_pay34 k0_pay33
  simp only [pointwise]
  rfl

/-- The next two. -/
theorem steps45 :
    k0_pay37 n (k0_pay34 n t1 t2) (k0_pay35 n t1 t2) (k0_pay36 n t1 t2) (ix2 r 0)
      = newton (n (ix2 r 0)) (newton (n (ix2 r 0)) (k0_pay34 n t1 t2 (ix2 r 0))) := by
  unfold k0_pay37 k0_pay35 k0_pay36
  simp only [pointwise]
  rfl

/-- The last, and the row divided by the deviation it gives. -/
theorem unit_apply (y : IVec S256x2880 32) (sh : IVec S256x1 32) (d : IVec S256x1 1) (c : Fin 2880) :
    k0_pay42 y sh n (k0_pay37 n t1 t2 d) (k0_pay38 n t1 t2 d) (k0_pay39 n) (k0_pay40 n t1 t2 d) (k0_pay41 n t1 t2 d) (ix2 r c)
      = IntOp.muli (y (ix2 r c)) (floorDiv 1073741824#32
          (IntOp.shli .vector (newton (n (ix2 r 0)) (k0_pay37 n t1 t2 d (ix2 r 0))) (sh (ix2 r 0)))) := by
  unfold k0_pay42 k0_pay38 k0_pay39 k0_pay40 k0_pay41
  simp only [pointwise]
  rfl

/-- The output code of a normalised row. -/
theorem out_apply (y : IVec S256x2880 32) (m k b : IVec S1x2880 32) (c : Fin 2880) :
    k0_pay1 (F := Ideal) y (k0_pay43 (F := Ideal) m) (k0_pay44 (F := Ideal) k) 1#32 b (ix2 r c)
      = (clamp 4294967169#32 127#32 (IntOp.addi (dyadic (y (ix2 r c)) (m (ix2 0 c)) (k (ix2 0 c))) (b (ix2 0 c)))).setWidth 8 := by
  unfold k0_pay1 k0_pay43 k0_pay44
  simp only [pointwise]
  rfl
end

/-! The stored values. -/

section
variable (z : IVec S256x2880 32) (q : IVec S256x1 32) (d : IVec S256x1 1) (e : IVec S256x1 32) (m5 k5 b5 : IVec S1x2880 32)

/-- The square root after one, three and five steps, with the parts of the next quotient. -/
def root1 : IVec S256x1 32 :=
  k0_pay32 (k0_pay27 z q d e) (k0_pay28 z q d e) (k0_pay29 z q d e) (k0_pay30 z q d e) k0_pay31
def half2 : IVec S256x1 32 :=
  k0_pay33 (k0_pay27 z q d e) (k0_pay28 z q d e) (k0_pay29 z q d e) (k0_pay30 z q d e) k0_pay31
def root3 : IVec S256x1 32 := k0_pay34 (k0_pay27 z q d e) (root1 z q d e) (half2 z q d e)
def quot3 : IVec S256x1 32 := k0_pay35 (k0_pay27 z q d e) (root1 z q d e) (half2 z q d e)
def cond3 : IVec S256x1 1 := k0_pay36 (k0_pay27 z q d e) (root1 z q d e) (half2 z q d e)

/-- The output codes. -/
def outs : IVec S256x2880 8 :=
  k0_pay1 (F := Ideal) (k0_pay42 (k0_pay25 z q d e) (k0_pay26 z q d e) (k0_pay27 z q d e)
      (k0_pay37 (k0_pay27 z q d e) (root3 z q d e) (quot3 z q d e) (cond3 z q d e))
      (k0_pay38 (k0_pay27 z q d e) (root3 z q d e) (quot3 z q d e) (cond3 z q d e)) (k0_pay39 (k0_pay27 z q d e))
      (k0_pay40 (k0_pay27 z q d e) (root3 z q d e) (quot3 z q d e) (cond3 z q d e))
      (k0_pay41 (k0_pay27 z q d e) (root3 z q d e) (quot3 z q d e) (cond3 z q d e)))
    (k0_pay43 (F := Ideal) m5) (k0_pay44 (F := Ideal) k5) 1#32 b5

theorem root_apply (r : Fin 256) :
    newton (k0_pay27 z q d e (ix2 r 0)) (k0_pay37 (k0_pay27 z q d e) (root3 z q d e) (quot3 z q d e) (cond3 z q d e) (ix2 r 0))
      = isqrt (k0_pay27 z q d e (ix2 r 0)) := by
  unfold root3 quot3 cond3
  rw [steps45]
  unfold root1 half2
  rw [steps23, step1]
  rfl

theorem outs_apply (r : Fin 256) (c : Fin 2880) (s : Fin 2880 → BitVec 32) (hs : ∀ c, k0_pay25 z q d e (ix2 r c) = cent s c) :
    outs z q d e m5 k5 b5 (ix2 r c) = outCode s c (m5 (ix2 0 c)) (k5 (ix2 0 c)) (b5 (ix2 0 c)) := by
  unfold outs
  rw [out_apply, unit_apply, root_apply, hs, shift_apply z q d e r s hs, var_apply z q d e r s hs]
  rfl
end

end Cert.Layer.Ref

end
-- ==== Proof.Layer.RefBlock.lean ====
/-
  The reference's one grid point: each input window's block is its whole array, and each result is what the body stores.
-/
module

public import proofs.«01_k».proof.Proof.Layer.RefRows
public import proofs.«01_k».proof.Proof.Gen.ReferenceIdeal.Value

@[expose] public section

noncomputable section

namespace Cert.Layer.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-- The one grid point. -/
abbrev t₀ : Fin cfg0.N := ⟨0, by decide⟩

/-! The inputs. -/

theorem blk0 : (iblk m c 0 t₀ : Vec Ideal S256x2880 .i8) = V m c main_v0 := by
  have hz : (fun a => win0_0.index t₀ a * main_v0.ty.shape.size a) = fun _ => 0 := funext fun a => by fin_cases a <;> decide
  exact Memref.read_access_unit_zero (Elt Ideal) main_v0 hz (fun a => by fin_cases a <;> decide) _

theorem blk1 : (iblk m c 1 t₀ : Vec Ideal S256x1 .i32) = V m c main_v1 := by
  have hz : (fun a => win0_1.index t₀ a * main_v1.ty.shape.size a) = fun _ => 0 := funext fun a => by fin_cases a <;> decide
  exact Memref.read_access_unit_zero (Elt Ideal) main_v1 hz (fun a => by fin_cases a <;> decide) _

theorem blk2 : (iblk m c 2 t₀ : Vec Ideal S2880x7680 .i8) = V m c main_arg2 := by
  have hz : (fun a => win0_2.index t₀ a * main_arg2.ty.shape.size a) = fun _ => 0 := funext fun a => by fin_cases a <;> decide
  exact Memref.read_access_unit_zero (Elt Ideal) main_arg2 hz (fun a => by fin_cases a <;> decide) _

theorem blk3 : (iblk m c 3 t₀ : Vec Ideal S1x7680 .i32) = V m c main_v2 := by
  have hz : (fun a => win0_3.index t₀ a * main_v2.ty.shape.size a) = fun _ => 0 := funext fun a => by fin_cases a <;> decide
  exact Memref.read_access_unit_zero (Elt Ideal) main_v2 hz (fun a => by fin_cases a <;> decide) _

theorem blk4 : (iblk m c 4 t₀ : Vec Ideal S1x7680 .i32) = V m c main_v3 := by
  have hz : (fun a => win0_4.index t₀ a * main_v3.ty.shape.size a) = fun _ => 0 := funext fun a => by fin_cases a <;> decide
  exact Memref.read_access_unit_zero (Elt Ideal) main_v3 hz (fun a => by fin_cases a <;> decide) _

theorem blk5 : (iblk m c 5 t₀ : Vec Ideal S1x7680 .i32) = V m c main_v4 := by
  have hz : (fun a => win0_5.index t₀ a * main_v4.ty.shape.size a) = fun _ => 0 := funext fun a => by fin_cases a <;> decide
  exact Memref.read_access_unit_zero (Elt Ideal) main_v4 hz (fun a => by fin_cases a <;> decide) _

theorem blk6 : (iblk m c 6 t₀ : Vec Ideal S1x1 .i32) = V m c main_v5 := by
  have hz : (fun a => win0_6.index t₀ a * main_v5.ty.shape.size a) = fun _ => 0 := funext fun a => by fin_cases a <;> decide
  exact Memref.read_access_unit_zero (Elt Ideal) main_v5 hz (fun a => by fin_cases a <;> decide) _

theorem blk7 : (iblk m c 7 t₀ : Vec Ideal S1x1 .i32) = V m c main_v6 := by
  have hz : (fun a => win0_7.index t₀ a * main_v6.ty.shape.size a) = fun _ => 0 := funext fun a => by fin_cases a <;> decide
  exact Memref.read_access_unit_zero (Elt Ideal) main_v6 hz (fun a => by fin_cases a <;> decide) _

theorem blk8 : (iblk m c 8 t₀ : Vec Ideal S7680x2880 .i8) = V m c main_arg8 := by
  have hz : (fun a => win0_8.index t₀ a * main_arg8.ty.shape.size a) = fun _ => 0 := funext fun a => by fin_cases a <;> decide
  exact Memref.read_access_unit_zero (Elt Ideal) main_arg8 hz (fun a => by fin_cases a <;> decide) _

theorem blk9 : (iblk m c 9 t₀ : Vec Ideal S1x2880 .i32) = V m c main_v7 := by
  have hz : (fun a => win0_9.index t₀ a * main_v7.ty.shape.size a) = fun _ => 0 := funext fun a => by fin_cases a <;> decide
  exact Memref.read_access_unit_zero (Elt Ideal) main_v7 hz (fun a => by fin_cases a <;> decide) _

theorem blk10 : (iblk m c 10 t₀ : Vec Ideal S1x2880 .i32) = V m c main_v8 := by
  have hz : (fun a => win0_10.index t₀ a * main_v8.ty.shape.size a) = fun _ => 0 := funext fun a => by fin_cases a <;> decide
  exact Memref.read_access_unit_zero (Elt Ideal) main_v8 hz (fun a => by fin_cases a <;> decide) _

theorem blk11 : (iblk m c 11 t₀ : Vec Ideal S1x2880 .i32) = V m c main_v9 := by
  have hz : (fun a => win0_11.index t₀ a * main_v9.ty.shape.size a) = fun _ => 0 := funext fun a => by fin_cases a <;> decide
  exact Memref.read_access_unit_zero (Elt Ideal) main_v9 hz (fun a => by fin_cases a <;> decide) _

theorem blk12 : (iblk m c 12 t₀ : Vec Ideal S1x1 .i32) = V m c main_v10 := by
  have hz : (fun a => win0_12.index t₀ a * main_v10.ty.shape.size a) = fun _ => 0 := funext fun a => by fin_cases a <;> decide
  exact Memref.read_access_unit_zero (Elt Ideal) main_v10 hz (fun a => by fin_cases a <;> decide) _

theorem blk13 : (iblk m c 13 t₀ : Vec Ideal S1x2880 .i32) = V m c main_v11 := by
  have hz : (fun a => win0_13.index t₀ a * main_v11.ty.shape.size a) = fun _ => 0 := funext fun a => by fin_cases a <;> decide
  exact Memref.read_access_unit_zero (Elt Ideal) main_v11 hz (fun a => by fin_cases a <;> decide) _

theorem blk14 : (iblk m c 14 t₀ : Vec Ideal S1x2880 .i32) = V m c main_v12 := by
  have hz : (fun a => win0_14.index t₀ a * main_v12.ty.shape.size a) = fun _ => 0 := funext fun a => by fin_cases a <;> decide
  exact Memref.read_access_unit_zero (Elt Ideal) main_v12 hz (fun a => by fin_cases a <;> decide) _

theorem blk15 : (iblk m c 15 t₀ : Vec Ideal S1x2880 .i32) = V m c main_v13 := by
  have hz : (fun a => win0_15.index t₀ a * main_v13.ty.shape.size a) = fun _ => 0 := funext fun a => by fin_cases a <;> decide
  exact Memref.read_access_unit_zero (Elt Ideal) main_v13 hz (fun a => by fin_cases a <;> decide) _

/-! The results. -/

theorem final16 : (dats m 0 c).arrAt 16 cfg0.N = out0_16 (V m c main_v0) (V m c main_v1) (V m c main_arg2) (V m c main_v2) (V m c main_v3) (V m c main_v4) (V m c main_v5) (V m c main_v6) (V m c main_arg8) (V m c main_v7) (V m c main_v8) (V m c main_v9) (V m c main_v10) (V m c main_v11) (V m c main_v12) (V m c main_v13) := by
  have hz : (fun a => win0_16.index t₀ a * main_v14_0.ty.shape.size a) = fun _ => 0 := funext fun a => by fin_cases a <;> decide
  have h := Value.blocks16 m c t₀ (by decide)
  rw [Value.flushed16, blk0, blk1, blk2, blk3, blk4, blk5, blk6, blk7, blk8, blk9, blk10, blk11, blk12, blk13, blk14, blk15] at h
  exact (Memref.read_access_unit_zero (Elt Ideal) main_v14_0 hz (fun a => by fin_cases a <;> decide) _).symm.trans h

theorem final17 : (dats m 0 c).arrAt 17 cfg0.N = out0_17 (V m c main_v0) (V m c main_v1) (V m c main_arg2) (V m c main_v2) (V m c main_v3) (V m c main_v4) (V m c main_v5) (V m c main_v6) (V m c main_arg8) (V m c main_v7) (V m c main_v8) (V m c main_v9) (V m c main_v10) (V m c main_v11) (V m c main_v12) (V m c main_v13) := by
  have hz : (fun a => win0_17.index t₀ a * main_v14_1.ty.shape.size a) = fun _ => 0 := funext fun a => by fin_cases a <;> decide
  have h := Value.blocks17 m c t₀ (by decide)
  rw [Value.flushed17, blk0, blk1, blk2, blk3, blk4, blk5, blk6, blk7, blk8, blk9, blk10, blk11, blk12, blk13, blk14, blk15] at h
  exact (Memref.read_access_unit_zero (Elt Ideal) main_v14_1 hz (fun a => by fin_cases a <;> decide) _).symm.trans h

theorem final18 : (dats m 0 c).arrAt 18 cfg0.N = out0_18 (V m c main_v0) (V m c main_v1) (V m c main_arg2) (V m c main_v2) (V m c main_v3) (V m c main_v4) (V m c main_v5) (V m c main_v6) (V m c main_arg8) (V m c main_v7) (V m c main_v8) (V m c main_v9) (V m c main_v10) (V m c main_v11) (V m c main_v12) (V m c main_v13) := by
  have hz : (fun a => win0_18.index t₀ a * main_v14_2.ty.shape.size a) = fun _ => 0 := funext fun a => by fin_cases a <;> decide
  have h := Value.blocks18 m c t₀ (by decide)
  rw [Value.flushed18, blk0, blk1, blk2, blk3, blk4, blk5, blk6, blk7, blk8, blk9, blk10, blk11, blk12, blk13, blk14, blk15] at h
  exact (Memref.read_access_unit_zero (Elt Ideal) main_v14_2 hz (fun a => by fin_cases a <;> decide) _).symm.trans h

theorem final19 : (dats m 0 c).arrAt 19 cfg0.N = out0_19 (V m c main_v0) (V m c main_v1) (V m c main_arg2) (V m c main_v2) (V m c main_v3) (V m c main_v4) (V m c main_v5) (V m c main_v6) (V m c main_arg8) (V m c main_v7) (V m c main_v8) (V m c main_v9) (V m c main_v10) (V m c main_v11) (V m c main_v12) (V m c main_v13) := by
  have hz : (fun a => win0_19.index t₀ a * main_v14_3.ty.shape.size a) = fun _ => 0 := funext fun a => by fin_cases a <;> decide
  have h := Value.blocks19 m c t₀ (by decide)
  rw [Value.flushed19, blk0, blk1, blk2, blk3, blk4, blk5, blk6, blk7, blk8, blk9, blk10, blk11, blk12, blk13, blk14, blk15] at h
  exact (Memref.read_access_unit_zero (Elt Ideal) main_v14_3 hz (fun a => by fin_cases a <;> decide) _).symm.trans h

end Cert.Layer.Ref

end
-- ==== Proof.Layer.RefValue.lean ====
/-
  The reference's four results: the layer of its arguments.
-/
module

public import proofs.«01_k».proof.Proof.Layer.RefBlock

@[expose] public section

noncomputable section

namespace Cert.Layer.Ref

open Idealize.ShloMosaic Idealize.ShloMosaic.TcCoe Idealize.SL.Sem Cert.ReferenceIdeal Cert.ReferenceIdeal.Gen

/-! Every load reads its whole buffer. -/

section
variable {e : EltTy}

theorem ld0 (x : Vec Ideal S256x2880 e) : View.ld x r0_0 = x :=
  View.ld_unit_zero (funext fun a => by fin_cases a <;> rfl) _ x

theorem ld1 (x : Vec Ideal S256x1 e) : View.ld x r0_1 = x :=
  View.ld_unit_zero (funext fun a => by fin_cases a <;> rfl) _ x

theorem ld2 (x : Vec Ideal S2880x7680 e) : View.ld x r0_2 = x :=
  View.ld_unit_zero (funext fun a => by fin_cases a <;> rfl) _ x

theorem ld3 (x : Vec Ideal S1x7680 e) : View.ld x r0_3 = x :=
  View.ld_unit_zero (funext fun a => by fin_cases a <;> rfl) _ x

theorem ld4 (x : Vec Ideal S1x1 e) : View.ld x r0_4 = x :=
  View.ld_unit_zero (funext fun a => by fin_cases a <;> rfl) _ x

theorem ld6 (x : Vec Ideal S7680x2880 e) : View.ld x r0_6 = x :=
  View.ld_unit_zero (funext fun a => by fin_cases a <;> rfl) _ x

theorem ld7 (x : Vec Ideal S1x2880 e) : View.ld x r0_7 = x :=
  View.ld_unit_zero (funext fun a => by fin_cases a <;> rfl) _ x

end

/-! The values the body's stores are built from. -/

section
variable (x0 : Vec Ideal S256x2880 .i8) (x1 : Vec Ideal S256x1 .i32) (x2 : Vec Ideal S2880x7680 .i8) (x3 : Vec Ideal S1x7680 .i32) (x4 : Vec Ideal S1x7680 .i32) (x5 : Vec Ideal S1x7680 .i32) (x6 : Vec Ideal S1x1 .i32) (x7 : Vec Ideal S1x1 .i32) (x8 : Vec Ideal S7680x2880 .i8) (x9 : Vec Ideal S1x2880 .i32) (x10 : Vec Ideal S1x2880 .i32) (x11 : Vec Ideal S1x2880 .i32) (x12 : Vec Ideal S1x1 .i32) (x13 : Vec Ideal S1x2880 .i32) (x14 : Vec Ideal S1x2880 .i32) (x15 : Vec Ideal S1x2880 .i32)

/-- The second product over the hidden codes. -/
def acc2 : IVec S256x2880 32 := accArr (hiddenCodes x0 x1 x2 x3 x4 x5 x6 x7) x8

theorem named13 : k0_pay13 (k0_pay49 x0 x1 x2 x3 x4 x5 x6 x7 x8 x9 x10 x11 x12 x13 x14 x15) (k0_pay50 x0 x1 x2 x3 x4 x5 x6 x7 x8 x9 x10 x11 x12 x13 x14 x15) (k0_pay51 x0 x1 x2 x3 x4 x5 x6 x7 x8 x9 x10 x11 x12 x13 x14 x15) (k0_pay52 x0 x1 x2 x3 x4 x5 x6 x7 x8 x9 x10 x11 x12 x13 x14 x15) (k0_pay53 x0 x1 x2 x3 x4 x5 x6 x7 x8 x9 x10 x11 x12 x13 x14 x15) (k0_pay54 x0 x1 x2 x3 x4 x5 x6 x7 x8 x9 x10 x11 x12 x13 x14 x15)
    = hiddenCodes x0 x1 x2 x3 x4 x5 x6 x7 := by
  unfold k0_pay49 k0_pay50 k0_pay51 k0_pay52 k0_pay53 k0_pay54 k0_pay47 k0_pay48
  simp only [ld0, ld1, ld2, ld3, ld4]
  rfl

theorem named60 : k0_pay60 x0 x1 x2 x3 x4 x5 x6 x7 x8 x9 x10 x11 x12 x13 x14 x15
    = sums (k0_pay49 x0 x1 x2 x3 x4 x5 x6 x7 x8 x9 x10 x11 x12 x13 x14 x15) (k0_pay50 x0 x1 x2 x3 x4 x5 x6 x7 x8 x9 x10 x11 x12 x13 x14 x15) (k0_pay51 x0 x1 x2 x3 x4 x5 x6 x7 x8 x9 x10 x11 x12 x13 x14 x15) (k0_pay52 x0 x1 x2 x3 x4 x5 x6 x7 x8 x9 x10 x11 x12 x13 x14 x15) (k0_pay53 x0 x1 x2 x3 x4 x5 x6 x7 x8 x9 x10 x11 x12 x13 x14 x15) (k0_pay54 x0 x1 x2 x3 x4 x5 x6 x7 x8 x9 x10 x11 x12 x13 x14 x15) x8 x9 x10 x11 x0 x1 x12 := by
  unfold k0_pay60 k0_pay45 k0_pay46 k0_pay55 k0_pay56 k0_pay57 k0_pay58 k0_pay59
  simp only [ld0, ld1, ld4, ld6, ld7]
  rfl

theorem named61 : k0_pay61 x0 x1 x2 x3 x4 x5 x6 x7 x8 x9 x10 x11 x12 x13 x14 x15
    = quot (k0_pay49 x0 x1 x2 x3 x4 x5 x6 x7 x8 x9 x10 x11 x12 x13 x14 x15) (k0_pay50 x0 x1 x2 x3 x4 x5 x6 x7 x8 x9 x10 x11 x12 x13 x14 x15) (k0_pay51 x0 x1 x2 x3 x4 x5 x6 x7 x8 x9 x10 x11 x12 x13 x14 x15) (k0_pay52 x0 x1 x2 x3 x4 x5 x6 x7 x8 x9 x10 x11 x12 x13 x14 x15) (k0_pay53 x0 x1 x2 x3 x4 x5 x6 x7 x8 x9 x10 x11 x12 x13 x14 x15) (k0_pay54 x0 x1 x2 x3 x4 x5 x6 x7 x8 x9 x10 x11 x12 x13 x14 x15) x8 x9 x10 x11 x0 x1 x12 := by
  unfold k0_pay61 k0_pay45 k0_pay46 k0_pay55 k0_pay56 k0_pay57 k0_pay58 k0_pay59
  simp only [ld0, ld1, ld4, ld6, ld7]
  rfl

theorem named62 : k0_pay62 x0 x1 x2 x3 x4 x5 x6 x7 x8 x9 x10 x11 x12 x13 x14 x15
    = differ (k0_pay49 x0 x1 x2 x3 x4 x5 x6 x7 x8 x9 x10 x11 x12 x13 x14 x15) (k0_pay50 x0 x1 x2 x3 x4 x5 x6 x7 x8 x9 x10 x11 x12 x13 x14 x15) (k0_pay51 x0 x1 x2 x3 x4 x5 x6 x7 x8 x9 x10 x11 x12 x13 x14 x15) (k0_pay52 x0 x1 x2 x3 x4 x5 x6 x7 x8 x9 x10 x11 x12 x13 x14 x15) (k0_pay53 x0 x1 x2 x3 x4 x5 x6 x7 x8 x9 x10 x11 x12 x13 x14 x15) (k0_pay54 x0 x1 x2 x3 x4 x5 x6 x7 x8 x9 x10 x11 x12 x13 x14 x15) x8 x9 x10 x11 x0 x1 x12 := by
  unfold k0_pay62 k0_pay45 k0_pay46 k0_pay55 k0_pay56 k0_pay57 k0_pay58 k0_pay59
  simp only [ld0, ld1, ld4, ld6, ld7]
  rfl

theorem named63 : k0_pay63 x0 x1 x2 x3 x4 x5 x6 x7 x8 x9 x10 x11 x12 x13 x14 x15
    = remn (k0_pay49 x0 x1 x2 x3 x4 x5 x6 x7 x8 x9 x10 x11 x12 x13 x14 x15) (k0_pay50 x0 x1 x2 x3 x4 x5 x6 x7 x8 x9 x10 x11 x12 x13 x14 x15) (k0_pay51 x0 x1 x2 x3 x4 x5 x6 x7 x8 x9 x10 x11 x12 x13 x14 x15) (k0_pay52 x0 x1 x2 x3 x4 x5 x6 x7 x8 x9 x10 x11 x12 x13 x14 x15) (k0_pay53 x0 x1 x2 x3 x4 x5 x6 x7 x8 x9 x10 x11 x12 x13 x14 x15) (k0_pay54 x0 x1 x2 x3 x4 x5 x6 x7 x8 x9 x10 x11 x12 x13 x14 x15) x8 x9 x10 x11 x0 x1 x12 := by
  unfold k0_pay63 k0_pay45 k0_pay46 k0_pay55 k0_pay56 k0_pay57 k0_pay58 k0_pay59
  simp only [ld0, ld1, ld4, ld6, ld7]
  rfl

/-- A row of the residual sums. -/
theorem sums_row (r : Fin 256) (c : Fin 2880) :
    k0_pay60 x0 x1 x2 x3 x4 x5 x6 x7 x8 x9 x10 x11 x12 x13 x14 x15 (ix2 r c) = zedAt (acc2 x0 x1 x2 x3 x4 x5 x6 x7 x8) x9 x10 x11 x0 x1 (x12 (ix2 0 0)) r c := by
  rw [named60, sums_apply, acc_eq, named13]
  rfl

theorem cent_row (r : Fin 256) (c : Fin 2880) :
    k0_pay25 (k0_pay60 x0 x1 x2 x3 x4 x5 x6 x7 x8 x9 x10 x11 x12 x13 x14 x15) (k0_pay61 x0 x1 x2 x3 x4 x5 x6 x7 x8 x9 x10 x11 x12 x13 x14 x15) (k0_pay62 x0 x1 x2 x3 x4 x5 x6 x7 x8 x9 x10 x11 x12 x13 x14 x15) (k0_pay63 x0 x1 x2 x3 x4 x5 x6 x7 x8 x9 x10 x11 x12 x13 x14 x15) (ix2 r c)
      = cent (zedAt (acc2 x0 x1 x2 x3 x4 x5 x6 x7 x8) x9 x10 x11 x0 x1 (x12 (ix2 0 0)) r) c := by
  rw [show zedAt (acc2 x0 x1 x2 x3 x4 x5 x6 x7 x8) x9 x10 x11 x0 x1 (x12 (ix2 0 0)) r
      = fun d => k0_pay60 x0 x1 x2 x3 x4 x5 x6 x7 x8 x9 x10 x11 x12 x13 x14 x15 (ix2 r d) from
    funext fun d => (sums_row x0 x1 x2 x3 x4 x5 x6 x7 x8 x9 x10 x11 x12 x13 x14 x15 r d).symm]
  rw [named60, named61, named62, named63]
  exact cent_apply (k0_pay49 x0 x1 x2 x3 x4 x5 x6 x7 x8 x9 x10 x11 x12 x13 x14 x15) (k0_pay50 x0 x1 x2 x3 x4 x5 x6 x7 x8 x9 x10 x11 x12 x13 x14 x15) (k0_pay51 x0 x1 x2 x3 x4 x5 x6 x7 x8 x9 x10 x11 x12 x13 x14 x15) (k0_pay52 x0 x1 x2 x3 x4 x5 x6 x7 x8 x9 x10 x11 x12 x13 x14 x15) (k0_pay53 x0 x1 x2 x3 x4 x5 x6 x7 x8 x9 x10 x11 x12 x13 x14 x15) (k0_pay54 x0 x1 x2 x3 x4 x5 x6 x7 x8 x9 x10 x11 x12 x13 x14 x15) x8 x9 x10 x11 x0 x1 x12 r c

theorem named71 : k0_pay71 x0 x1 x2 x3 x4 x5 x6 x7 x8 x9 x10 x11 x12 x13 x14 x15 = root3 (k0_pay60 x0 x1 x2 x3 x4 x5 x6 x7 x8 x9 x10 x11 x12 x13 x14 x15) (k0_pay61 x0 x1 x2 x3 x4 x5 x6 x7 x8 x9 x10 x11 x12 x13 x14 x15) (k0_pay62 x0 x1 x2 x3 x4 x5 x6 x7 x8 x9 x10 x11 x12 x13 x14 x15) (k0_pay63 x0 x1 x2 x3 x4 x5 x6 x7 x8 x9 x10 x11 x12 x13 x14 x15) := rfl
theorem named72 : k0_pay72 x0 x1 x2 x3 x4 x5 x6 x7 x8 x9 x10 x11 x12 x13 x14 x15 = quot3 (k0_pay60 x0 x1 x2 x3 x4 x5 x6 x7 x8 x9 x10 x11 x12 x13 x14 x15) (k0_pay61 x0 x1 x2 x3 x4 x5 x6 x7 x8 x9 x10 x11 x12 x13 x14 x15) (k0_pay62 x0 x1 x2 x3 x4 x5 x6 x7 x8 x9 x10 x11 x12 x13 x14 x15) (k0_pay63 x0 x1 x2 x3 x4 x5 x6 x7 x8 x9 x10 x11 x12 x13 x14 x15) := rfl
theorem named73 : k0_pay73 x0 x1 x2 x3 x4 x5 x6 x7 x8 x9 x10 x11 x12 x13 x14 x15 = cond3 (k0_pay60 x0 x1 x2 x3 x4 x5 x6 x7 x8 x9 x10 x11 x12 x13 x14 x15) (k0_pay61 x0 x1 x2 x3 x4 x5 x6 x7 x8 x9 x10 x11 x12 x13 x14 x15) (k0_pay62 x0 x1 x2 x3 x4 x5 x6 x7 x8 x9 x10 x11 x12 x13 x14 x15) (k0_pay63 x0 x1 x2 x3 x4 x5 x6 x7 x8 x9 x10 x11 x12 x13 x14 x15) := rfl

/-! The results. -/

theorem out17_eq : out0_17 x0 x1 x2 x3 x4 x5 x6 x7 x8 x9 x10 x11 x12 x13 x14 x15 = hiddenCodes x0 x1 x2 x3 x4 x5 x6 x7 := by
  unfold out0_17
  rw [View.canon_unit_zero (funext fun a => by fin_cases a <;> rfl)]
  exact named13 x0 x1 x2 x3 x4 x5 x6 x7 x8 x9 x10 x11 x12 x13 x14 x15

theorem out18_eq : out0_18 x0 x1 x2 x3 x4 x5 x6 x7 x8 x9 x10 x11 x12 x13 x14 x15 = zArr (acc2 x0 x1 x2 x3 x4 x5 x6 x7 x8) x9 x10 x11 x0 x1 (x12 (ix2 0 0)) := by
  unfold out0_18
  rw [View.canon_unit_zero (funext fun a => by fin_cases a <;> rfl)]
  funext y
  rw [eq_ix2 y]
  exact sums_row x0 x1 x2 x3 x4 x5 x6 x7 x8 x9 x10 x11 x12 x13 x14 x15 _ _

theorem out19_eq : out0_19 x0 x1 x2 x3 x4 x5 x6 x7 x8 x9 x10 x11 x12 x13 x14 x15 = sArr (acc2 x0 x1 x2 x3 x4 x5 x6 x7 x8) x9 x10 x11 x0 x1 (x12 (ix2 0 0)) := by
  unfold out0_19
  rw [View.canon_unit_zero (funext fun a => by fin_cases a <;> rfl)]
  have h : ∀ (r : Fin 256) (z : Fin 1), k0_pay26 (k0_pay60 x0 x1 x2 x3 x4 x5 x6 x7 x8 x9 x10 x11 x12 x13 x14 x15) (k0_pay61 x0 x1 x2 x3 x4 x5 x6 x7 x8 x9 x10 x11 x12 x13 x14 x15) (k0_pay62 x0 x1 x2 x3 x4 x5 x6 x7 x8 x9 x10 x11 x12 x13 x14 x15) (k0_pay63 x0 x1 x2 x3 x4 x5 x6 x7 x8 x9 x10 x11 x12 x13 x14 x15) (ix2 r z)
      = shiftOf (zedAt (acc2 x0 x1 x2 x3 x4 x5 x6 x7 x8) x9 x10 x11 x0 x1 (x12 (ix2 0 0)) r) := fun r z => by
    obtain rfl : z = 0 := Subsingleton.elim _ _
    exact shift_apply (k0_pay60 x0 x1 x2 x3 x4 x5 x6 x7 x8 x9 x10 x11 x12 x13 x14 x15) (k0_pay61 x0 x1 x2 x3 x4 x5 x6 x7 x8 x9 x10 x11 x12 x13 x14 x15) (k0_pay62 x0 x1 x2 x3 x4 x5 x6 x7 x8 x9 x10 x11 x12 x13 x14 x15) (k0_pay63 x0 x1 x2 x3 x4 x5 x6 x7 x8 x9 x10 x11 x12 x13 x14 x15) r _ (cent_row x0 x1 x2 x3 x4 x5 x6 x7 x8 x9 x10 x11 x12 x13 x14 x15 r)
  funext y
  rw [eq_ix2 y]
  exact h _ _

theorem out16_eq : out0_16 x0 x1 x2 x3 x4 x5 x6 x7 x8 x9 x10 x11 x12 x13 x14 x15
    = oArr (acc2 x0 x1 x2 x3 x4 x5 x6 x7 x8) x9 x10 x11 x0 x1 (x12 (ix2 0 0)) x13 x14 x15 := by
  unfold out0_16
  rw [View.canon_unit_zero (funext fun a => by fin_cases a <;> rfl)]
  simp only [ld7]
  rw [named71, named72, named73]
  unfold k0_pay64
  have h : ∀ (r : Fin 256) (c : Fin 2880), outs (k0_pay60 x0 x1 x2 x3 x4 x5 x6 x7 x8 x9 x10 x11 x12 x13 x14 x15) (k0_pay61 x0 x1 x2 x3 x4 x5 x6 x7 x8 x9 x10 x11 x12 x13 x14 x15) (k0_pay62 x0 x1 x2 x3 x4 x5 x6 x7 x8 x9 x10 x11 x12 x13 x14 x15) (k0_pay63 x0 x1 x2 x3 x4 x5 x6 x7 x8 x9 x10 x11 x12 x13 x14 x15) x13 x14 x15 (ix2 r c)
      = outCode (zedAt (acc2 x0 x1 x2 x3 x4 x5 x6 x7 x8) x9 x10 x11 x0 x1 (x12 (ix2 0 0)) r) c (x13 (ix2 0 c)) (x14 (ix2 0 c)) (x15 (ix2 0 c)) :=
    fun r c => outs_apply (k0_pay60 x0 x1 x2 x3 x4 x5 x6 x7 x8 x9 x10 x11 x12 x13 x14 x15) (k0_pay61 x0 x1 x2 x3 x4 x5 x6 x7 x8 x9 x10 x11 x12 x13 x14 x15) (k0_pay62 x0 x1 x2 x3 x4 x5 x6 x7 x8 x9 x10 x11 x12 x13 x14 x15) (k0_pay63 x0 x1 x2 x3 x4 x5 x6 x7 x8 x9 x10 x11 x12 x13 x14 x15) x13 x14 x15 r c _ (cent_row x0 x1 x2 x3 x4 x5 x6 x7 x8 x9 x10 x11 x12 x13 x14 x15 r)
  funext y
  rw [eq_ix2 y]
  exact h _ _

end

/-! In terms of the region's arrays. -/

section
variable (m : (ℓ : Loc nD τ sig) → Buf (Elt Ideal) ℓ) (c : Dev nD)

/-- All hidden codes. -/
def codesR : IVec S256x7680 8 :=
  gArr (V m c main_v0) (V m c main_v1) (V m c main_arg2) (V m c main_v2) (V m c main_v3) (V m c main_v4)
    ((V m c main_v5 : IVec S1x1 32) (ix2 0 0)) ((V m c main_v6 : IVec S1x1 32) (ix2 0 0))

theorem acc2_eq : acc2 (V m c main_v0) (V m c main_v1) (V m c main_arg2) (V m c main_v2) (V m c main_v3) (V m c main_v4) (V m c main_v5)
    (V m c main_v6) (V m c main_arg8) = accArr (codesR m c) (V m c main_arg8) := by
  unfold acc2
  rw [hiddenCodes_eq]
  rfl

theorem ref17 : (dats m 0 c).arrAt 17 cfg0.N = codesR m c :=
  (final17 m c).trans ((out17_eq ..).trans (hiddenCodes_eq ..))

theorem ref18 : (dats m 0 c).arrAt 18 cfg0.N
    = zArr (accArr (codesR m c) (V m c main_arg8)) (V m c main_v7) (V m c main_v8) (V m c main_v9) (V m c main_v0) (V m c main_v1)
        ((V m c main_v10 : IVec S1x1 32) (ix2 0 0)) := by
  rw [← acc2_eq]
  exact (final18 m c).trans (out18_eq ..)

theorem ref19 : (dats m 0 c).arrAt 19 cfg0.N
    = sArr (accArr (codesR m c) (V m c main_arg8)) (V m c main_v7) (V m c main_v8) (V m c main_v9) (V m c main_v0) (V m c main_v1)
        ((V m c main_v10 : IVec S1x1 32) (ix2 0 0)) := by
  rw [← acc2_eq]
  exact (final19 m c).trans (out19_eq ..)

theorem ref16 : (dats m 0 c).arrAt 16 cfg0.N
    = oArr (accArr (codesR m c) (V m c main_arg8)) (V m c main_v7) (V m c main_v8) (V m c main_v9) (V m c main_v0) (V m c main_v1)
        ((V m c main_v10 : IVec S1x1 32) (ix2 0 0)) (V m c main_v11) (V m c main_v12) (V m c main_v13) := by
  rw [← acc2_eq]
  exact (final16 m c).trans (out16_eq ..)

end

end Cert.Layer.Ref

end
-- ==== Proof.Layer.Same.lean ====
/-
  Both programs' arrays at the kernel call are the same reshapes of the same arguments, so their results are equal.
-/
module

public import proofs.«01_k».proof.Proof.Layer.Fold
public import proofs.«01_k».proof.Proof.Layer.RefEntry
public import proofs.«01_k».proof.Proof.Layer.RefValue

@[expose] public section

noncomputable section

namespace Cert.Layer

open Idealize.ShloMosaic Idealize.ShloMosaic.TcCoe Idealize.SL.Sem

/-- A run's memory, of either program. -/
abbrev MemK : Type := (ℓ : Loc Cert.KernelIdeal.nD Cert.KernelIdeal.τ Cert.KernelIdeal.sig) → Buf (Elt Ideal) ℓ
abbrev MemR : Type := (ℓ : Loc Cert.ReferenceIdeal.nD Cert.ReferenceIdeal.τ Cert.ReferenceIdeal.sig) → Buf (Elt Ideal) ℓ

variable (m : MemK) (m' : MemR) (c : Dev Cert.KernelIdeal.nD)

/-! The arrays. -/

theorem same0 (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Gen.V m' c Cert.ReferenceIdeal.main_v0 : IVec Cert.ReferenceIdeal.S256x2880 8) = Cert.KernelIdeal.Gen.V m c Cert.KernelIdeal.main_v0 := by
  rw [Ref.V_v0, V_v0, h]

theorem same1 (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Gen.V m' c Cert.ReferenceIdeal.main_v1 : IVec Cert.ReferenceIdeal.S256x1 32) = Cert.KernelIdeal.Gen.V m c Cert.KernelIdeal.main_v1 := by
  rw [Ref.V_v1, V_v1, h]

theorem same3 (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    (Cert.ReferenceIdeal.Gen.V m' c Cert.ReferenceIdeal.main_v2 : IVec Cert.ReferenceIdeal.S1x7680 32) = Cert.KernelIdeal.Gen.V m c Cert.KernelIdeal.main_v5 := by
  rw [Ref.V_v2, V_v5, h]

theorem same4 (h : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    (Cert.ReferenceIdeal.Gen.V m' c Cert.ReferenceIdeal.main_v3 : IVec Cert.ReferenceIdeal.S1x7680 32) = Cert.KernelIdeal.Gen.V m c Cert.KernelIdeal.main_v6 := by
  rw [Ref.V_v3, V_v6, h]

theorem same5 (h : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    (Cert.ReferenceIdeal.Gen.V m' c Cert.ReferenceIdeal.main_v4 : IVec Cert.ReferenceIdeal.S1x7680 32) = Cert.KernelIdeal.Gen.V m c Cert.KernelIdeal.main_v7 := by
  rw [Ref.V_v4, V_v7, h]

theorem same9 (h : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    (Cert.ReferenceIdeal.Gen.V m' c Cert.ReferenceIdeal.main_v7 : IVec Cert.ReferenceIdeal.S1x2880 32) = Cert.KernelIdeal.Gen.V m c Cert.KernelIdeal.main_v8 := by
  rw [Ref.V_v7, V_v8, h]

theorem same10 (h : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10)) :
    (Cert.ReferenceIdeal.Gen.V m' c Cert.ReferenceIdeal.main_v8 : IVec Cert.ReferenceIdeal.S1x2880 32) = Cert.KernelIdeal.Gen.V m c Cert.KernelIdeal.main_v9 := by
  rw [Ref.V_v8, V_v9, h]

theorem same11 (h : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11)) :
    (Cert.ReferenceIdeal.Gen.V m' c Cert.ReferenceIdeal.main_v9 : IVec Cert.ReferenceIdeal.S1x2880 32) = Cert.KernelIdeal.Gen.V m c Cert.KernelIdeal.main_v10 := by
  rw [Ref.V_v9, V_v10, h]

theorem same13 (h : m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13)) :
    (Cert.ReferenceIdeal.Gen.V m' c Cert.ReferenceIdeal.main_v11 : IVec Cert.ReferenceIdeal.S1x2880 32) = Cert.KernelIdeal.Gen.V m c Cert.KernelIdeal.main_v11 := by
  rw [Ref.V_v11, V_v11, h]

theorem same14 (h : m' ((c.tc : Thread Cert.ReferenceIdeal.nD Cert.ReferenceIdeal.τ).loc Cert.ReferenceIdeal.main_arg14)
      = m ((c.tc : Thread Cert.KernelIdeal.nD Cert.KernelIdeal.τ).loc Cert.KernelIdeal.main_arg14)) :
    (Cert.ReferenceIdeal.Gen.V m' c Cert.ReferenceIdeal.main_v12 : IVec Cert.ReferenceIdeal.S1x2880 32) = Cert.KernelIdeal.Gen.V m c Cert.KernelIdeal.main_v12 := by
  rw [Ref.V_v12, V_v12, h]

theorem same15 (h : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15)) :
    (Cert.ReferenceIdeal.Gen.V m' c Cert.ReferenceIdeal.main_v13 : IVec Cert.ReferenceIdeal.S1x2880 32) = Cert.KernelIdeal.Gen.V m c Cert.KernelIdeal.main_v13 := by
  rw [Ref.V_v13, V_v13, h]

theorem same2 (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Gen.V m' c Cert.ReferenceIdeal.main_arg2 : IVec Cert.ReferenceIdeal.S2880x7680 8) = Cert.KernelIdeal.Gen.V m c Cert.KernelIdeal.main_arg2 := by
  rw [Cert.ReferenceIdeal.Gen.V_main_arg2, Cert.KernelIdeal.Gen.V_main_arg2, h]

theorem same8 (h : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8)) :
    (Cert.ReferenceIdeal.Gen.V m' c Cert.ReferenceIdeal.main_arg8 : IVec Cert.ReferenceIdeal.S7680x2880 8) = Cert.KernelIdeal.Gen.V m c Cert.KernelIdeal.main_arg8 := by
  rw [Cert.ReferenceIdeal.Gen.V_main_arg8, Cert.KernelIdeal.Gen.V_main_arg8, h]

/-! The scalars: one-element arrays of rank 2 in the reference, of rank 1 in the kernel. -/

theorem scalar_eq (x y : IVec Cert.KernelIdeal.S_ 32) (h : x = y) (h1 : Cert.ReferenceIdeal.S_.ShapeCasts Cert.ReferenceIdeal.S1x1)
    (h2 : Cert.KernelIdeal.S_.ShapeCasts Cert.KernelIdeal.S1) :
    shapeCast Cert.ReferenceIdeal.S1x1 x h1 (ix2 0 0) = shapeCast Cert.KernelIdeal.S1 y h2 (ix1 0) := by
  subst h
  exact congrArg x (Subsingleton.elim _ _)

theorem same6 (h : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    (Cert.ReferenceIdeal.Gen.V m' c Cert.ReferenceIdeal.main_v5 : IVec Cert.ReferenceIdeal.S1x1 32) (ix2 0 0)
      = (Cert.KernelIdeal.Gen.V m c Cert.KernelIdeal.main_v2 : IVec Cert.KernelIdeal.S1 32) (ix1 0) := by
  rw [Ref.V_v5, V_v2]
  exact scalar_eq _ _ h _ _

theorem same7 (h : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)) :
    (Cert.ReferenceIdeal.Gen.V m' c Cert.ReferenceIdeal.main_v6 : IVec Cert.ReferenceIdeal.S1x1 32) (ix2 0 0)
      = (Cert.KernelIdeal.Gen.V m c Cert.KernelIdeal.main_v3 : IVec Cert.KernelIdeal.S1 32) (ix1 0) := by
  rw [Ref.V_v6, V_v3]
  exact scalar_eq _ _ h _ _

theorem same12 (h : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12)) :
    (Cert.ReferenceIdeal.Gen.V m' c Cert.ReferenceIdeal.main_v10 : IVec Cert.ReferenceIdeal.S1x1 32) (ix2 0 0)
      = (Cert.KernelIdeal.Gen.V m c Cert.KernelIdeal.main_v4 : IVec Cert.KernelIdeal.S1 32) (ix1 0) := by
  rw [Ref.V_v10, V_v4]
  exact scalar_eq _ _ h _ _

/-! The results. -/

/-- The two programs' arguments are equal. -/
def SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

variable {m m' c}

theorem codes_same (h : SameArgs m m' c) : Ref.codesR m' c = codesAll m c := by
  obtain ⟨h0, h1, h2, h3, h4, h5, h6, h7, -⟩ := h
  unfold Ref.codesR codesAll inp
  rw [same0 m m' c h0, same1 m m' c h1, same2 m m' c h2, same3 m m' c h3, same4 m m' c h4, same5 m m' c h5, same6 m m' c h6, same7 m m' c h7]

theorem result16 (h : SameArgs m m' c) :
    (Cert.ReferenceIdeal.Gen.dats m' 0 c).arrAt 16 Cert.ReferenceIdeal.cfg0.N = Cert.KernelIdeal.Value.G16 m c := by
  rw [Ref.ref16, codes_same h]
  obtain ⟨h0, h1, -, -, -, -, -, -, h8, h9, h10, h11, h12, h13, h14, h15⟩ := h
  rw [same0 m m' c h0, same1 m m' c h1, same8 m m' c h8, same9 m m' c h9, same10 m m' c h10, same11 m m' c h11, same12 m m' c h12, same13 m m' c h13, same14 m m' c h14, same15 m m' c h15]
  exact (value16 m c).symm

theorem result18 (h : SameArgs m m' c) :
    (Cert.ReferenceIdeal.Gen.dats m' 0 c).arrAt 18 Cert.ReferenceIdeal.cfg0.N = Cert.KernelIdeal.Value.G18 m c := by
  rw [Ref.ref18, codes_same h]
  obtain ⟨h0, h1, -, -, -, -, -, -, h8, h9, h10, h11, h12, h13, h14, h15⟩ := h
  rw [same0 m m' c h0, same1 m m' c h1, same8 m m' c h8, same9 m m' c h9, same10 m m' c h10, same11 m m' c h11, same12 m m' c h12]
  exact (value18 m c).symm

theorem result19 (h : SameArgs m m' c) :
    (Cert.ReferenceIdeal.Gen.dats m' 0 c).arrAt 19 Cert.ReferenceIdeal.cfg0.N = Cert.KernelIdeal.Value.G19 m c := by
  rw [Ref.ref19, codes_same h]
  obtain ⟨h0, h1, -, -, -, -, -, -, h8, h9, h10, h11, h12, h13, h14, h15⟩ := h
  rw [same0 m m' c h0, same1 m m' c h1, same8 m m' c h8, same9 m m' c h9, same10 m m' c h10, same11 m m' c h11, same12 m m' c h12]
  exact (value19 m c).symm

theorem result17 (h : SameArgs m m' c) :
    (Cert.ReferenceIdeal.Gen.dats m' 0 c).arrAt 17 Cert.ReferenceIdeal.cfg0.N = Cert.KernelIdeal.Value.G17 m c := by
  rw [Ref.ref17, codes_same h]
  exact (value17 m c).symm

end Cert.Layer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Layer.Same
public import Idealize.ShloMosaic.Adequacy
public import Idealize.ShloMosaic.Init

@[expose] public section

noncomputable section

namespace Cert.Proof

open Idealize.ShloMosaic Idealize.SL.Sem Cert.Kernel

/-- Both run, and from equal arguments the four results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G16 m c, fun c => Cert.KernelIdeal.Value.G17 m c, fun c => Cert.KernelIdeal.Value.G18 m c,
    fun c => Cert.KernelIdeal.Value.G19 m c, Cert.KernelIdeal.Value.run m g, ?_⟩
  refine (θ_run (Cert.ReferenceIdeal.defs (F := Ideal)) _ _).mono (fun r h c => ?_) (Cert.ReferenceIdeal.Value.run_blocks m' g')
  obtain ⟨e16, e17, e18, e19, hrest⟩ := h c
  exact ⟨e16.trans (Cert.Layer.result16 (hargs c)), e17.trans (Cert.Layer.result17 (hargs c)),
    e18.trans (Cert.Layer.result18 (hargs c)), e19.trans (Cert.Layer.result19 (hargs c)), hrest⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, fun m ρ _ => Cert.ReferenceIdeal.Gen.frame m ρ,
    trivial, algebraic⟩

end Cert.Proof

end
